-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_gate_no_bias [hPre_finite_gate_no_bias : Cert.Pre_finite_gate_no_bias.Facts] (m : (ℓ : Loc Cert.KernelIdeal.nD Cert.KernelIdeal.τ Cert.KernelIdeal.sig) → Buf (Elt Ideal) ℓ) : Prop :=
  ∀ c : Dev Cert.KernelIdeal.nD,
    (Cert.Pre_finite_gate_no_bias.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))).1 = (fun _ => 1#1)
    ∧ (Cert.Pre_finite_gate_no_bias.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))).2.1 = (fun _ => 1#1)
    ∧ (Cert.Pre_finite_gate_no_bias.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))).2.2.1 = (fun _ => 1#1)
    ∧ (Cert.Pre_finite_gate_no_bias.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))).2.2.2.1 = (fun _ => 1#1)
    ∧ (Cert.Pre_finite_gate_no_bias.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))).2.2.2.2.1 = (fun _ => 1#1)
    ∧ (Cert.Pre_finite_gate_no_bias.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))).2.2.2.2.2.1 = (fun _ => 1#1)
    ∧ (Cert.Pre_finite_gate_no_bias.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))).2.2.2.2.2.2.1 = (fun _ => 1#1)
    ∧ (Cert.Pre_finite_gate_no_bias.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))).2.2.2.2.2.2.2.1 = (fun _ => 1#1)
    ∧ (Cert.Pre_finite_gate_no_bias.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))).2.2.2.2.2.2.2.2.1 = (fun _ => 1#1)
    ∧ (Cert.Pre_finite_gate_no_bias.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))).2.2.2.2.2.2.2.2.2.1 = (fun _ => 1#1)
    ∧ (Cert.Pre_finite_gate_no_bias.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))).2.2.2.2.2.2.2.2.2.2.1 = (fun _ => 1#1)
    ∧ (Cert.Pre_finite_gate_no_bias.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))).2.2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_gate_no_bias [hPre_finite_gate_no_bias : Cert.Pre_finite_gate_no_bias.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_gate_no_bias.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))).1 = (fun _ => 1#1)
    ∧ (Cert.Pre_finite_gate_no_bias.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))).2.1 = (fun _ => 1#1)
    ∧ (Cert.Pre_finite_gate_no_bias.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))).2.2.1 = (fun _ => 1#1)
    ∧ (Cert.Pre_finite_gate_no_bias.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))).2.2.2.1 = (fun _ => 1#1)
    ∧ (Cert.Pre_finite_gate_no_bias.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))).2.2.2.2.1 = (fun _ => 1#1)
    ∧ (Cert.Pre_finite_gate_no_bias.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))).2.2.2.2.2.1 = (fun _ => 1#1)
    ∧ (Cert.Pre_finite_gate_no_bias.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))).2.2.2.2.2.2.1 = (fun _ => 1#1)
    ∧ (Cert.Pre_finite_gate_no_bias.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))).2.2.2.2.2.2.2.1 = (fun _ => 1#1)
    ∧ (Cert.Pre_finite_gate_no_bias.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))).2.2.2.2.2.2.2.2.1 = (fun _ => 1#1)
    ∧ (Cert.Pre_finite_gate_no_bias.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))).2.2.2.2.2.2.2.2.2.1 = (fun _ => 1#1)
    ∧ (Cert.Pre_finite_gate_no_bias.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))).2.2.2.2.2.2.2.2.2.2.1 = (fun _ => 1#1)
    ∧ (Cert.Pre_finite_gate_no_bias.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))).2.2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ r.2.sem = fun _ => 0)

def quiescent_KernelIdeal_pre_finite_gate_no_bias [hKernelIdeal : Cert.KernelIdeal.Facts] [hPre_finite_gate_no_bias : Cert.Pre_finite_gate_no_bias.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_gate_no_bias m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))
      ∧ r.2.sem = fun _ => 0)

def quiescent_ReferenceIdeal_pre_finite_gate_no_bias [hReferenceIdeal : Cert.ReferenceIdeal.Facts] [hPre_finite_gate_no_bias : Cert.Pre_finite_gate_no_bias.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_gate_no_bias m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))
      ∧ r.2.sem = fun _ => 0)

def preserves_Kernel_KernelIdeal : Prop :=
  True

def algebraic_KernelIdeal_ReferenceIdeal_pre_finite_gate_no_bias [hKernelIdeal : Cert.KernelIdeal.Facts] [hReferenceIdeal : Cert.ReferenceIdeal.Facts] [hPre_finite_gate_no_bias : Cert.Pre_finite_gate_no_bias.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_gate_no_bias m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v128) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_gate_no_bias : Cert.Pre_finite_gate_no_bias.Facts),
    quiescent_Kernel (hKernel := hKernel)
    ∧ quiescent_KernelIdeal (hKernelIdeal := hKernelIdeal)
    ∧ quiescent_KernelIdeal_pre_finite_gate_no_bias (hKernelIdeal := hKernelIdeal) (hPre_finite_gate_no_bias := hPre_finite_gate_no_bias)
    ∧ quiescent_ReferenceIdeal (hReferenceIdeal := hReferenceIdeal)
    ∧ quiescent_ReferenceIdeal_pre_finite_gate_no_bias (hReferenceIdeal := hReferenceIdeal) (hPre_finite_gate_no_bias := hPre_finite_gate_no_bias)
    ∧ preserves_Kernel_KernelIdeal
    ∧ algebraic_KernelIdeal_ReferenceIdeal_pre_finite_gate_no_bias (hKernelIdeal := hKernelIdeal) (hReferenceIdeal := hReferenceIdeal) (hPre_finite_gate_no_bias := hPre_finite_gate_no_bias)
-- ==== Pre_finite_gate_no_bias.lean ====
abbrev S2048x1024 : Shape := ⟨2, ![2048, 1024]⟩
abbrev S4x1024 : Shape := ⟨2, ![4, 1024]⟩
abbrev S4 : Shape := ⟨1, ![4]⟩
abbrev S2048 : Shape := ⟨1, ![2048]⟩
abbrev S1024x2048 : Shape := ⟨2, ![1024, 2048]⟩
abbrev S1024 : Shape := ⟨1, ![1024]⟩
abbrev S2048x1024x3 : Shape := ⟨3, ![2048, 1024, 3]⟩
abbrev S6144x1024 : Shape := ⟨2, ![6144, 1024]⟩
abbrev S6144x2048 : Shape := ⟨2, ![6144, 2048]⟩
abbrev S6144 : Shape := ⟨1, ![6144]⟩
abbrev S_ : Shape := ⟨0, ![]⟩

class Facts : Prop where
  bcast_S_S2048x1024 : S_.BroadcastsInDim S2048x1024 (![] : Fin 0 → Fin S2048x1024.rank)
  bcast_S_S4x1024 : S_.BroadcastsInDim S4x1024 (![] : Fin 0 → Fin S4x1024.rank)
  bcast_S_S4 : S_.BroadcastsInDim S4 (![] : Fin 0 → Fin S4.rank)
  bcast_S_S2048 : S_.BroadcastsInDim S2048 (![] : Fin 0 → Fin S2048.rank)
  bcast_S_S1024 : S_.BroadcastsInDim S1024 (![] : Fin 0 → Fin S1024.rank)
  bcast_S_S6144 : S_.BroadcastsInDim S6144 (![] : Fin 0 → Fin S6144.rank)

variable [Facts]

def fn_part1 {F : FTy → Type} [FloatOps F] (main_arg13 : FVec F S6144 .f32) (main_arg14 : FVec F S6144 .f32) (main_arg16 : FVec F S1024 .f32) (main_arg18 : FVec F S2048 .f32) (main_arg20 : FVec F S1024 .f32) (main_v2 : IVec S2048x1024 1) (main_v5 : IVec S4x1024 1) (main_v7 : IVec S4 1) (main_v9 : IVec S2048 1) (main_v11 : IVec S1024 1) (main_v13 : IVec S2048 1) (main_v15 : IVec S1024 1) (main_cst_6 : FVec F S_ .f32) : IVec S2048x1024 1 × IVec S4x1024 1 × IVec S4 1 × IVec S2048 1 × IVec S1024 1 × IVec S2048 1 × IVec S1024 1 × IVec S6144 1 × IVec S6144 1 × IVec S1024 1 × IVec S2048 1 × IVec S1024 1 :=
  let main_v16 : FVec F S6144 .f32 := broadcastInDim S6144 ![] bcast_S_S6144 main_cst_6
  let main_v17 : IVec S6144 1 := cmpf .oeq main_arg13 main_v16
  let main_cst_7 : FVec F S_ .f32 := constant S_ .f32 0x00000000#32
  let main_v18 : FVec F S6144 .f32 := broadcastInDim S6144 ![] bcast_S_S6144 main_cst_7
  let main_v19 : IVec S6144 1 := cmpf .oeq main_arg14 main_v18
  let main_cst_8 : FVec F S_ .f32 := constant S_ .f32 0x00000000#32
  let main_v20 : FVec F S1024 .f32 := broadcastInDim S1024 ![] bcast_S_S1024 main_cst_8
  let main_v21 : IVec S1024 1 := cmpf .oeq main_arg16 main_v20
  let main_cst_9 : FVec F S_ .f32 := constant S_ .f32 0x00000000#32
  let main_v22 : FVec F S2048 .f32 := broadcastInDim S2048 ![] bcast_S_S2048 main_cst_9
  let main_v23 : IVec S2048 1 := cmpf .oeq main_arg18 main_v22
  let main_cst_10 : FVec F S_ .f32 := constant S_ .f32 0x00000000#32
  let main_v24 : FVec F S1024 .f32 := broadcastInDim S1024 ![] bcast_S_S1024 main_cst_10
  let main_v25 : IVec S1024 1 := cmpf .oeq main_arg20 main_v24
  (main_v2, main_v5, main_v7, main_v9, main_v11, main_v13, main_v15, main_v17, main_v19, main_v21, main_v23, main_v25)

def fn {F : FTy → Type} [FloatOps F] (main_arg0 : FVec F S2048x1024 .f32) (main_arg1 : FVec F S4x1024 .f32) (main_arg2 : FVec F S4 .f32) (main_arg3 : FVec F S2048x1024 .f32) (main_arg4 : FVec F S2048 .f32) (main_arg5 : FVec F S1024x2048 .f32) (main_arg6 : FVec F S1024 .f32) (main_arg7 : FVec F S2048x1024x3 .f32) (main_arg8 : FVec F S2048 .f32) (main_arg9 : FVec F S1024x2048 .f32) (main_arg10 : FVec F S1024 .f32) (main_arg11 : FVec F S6144x1024 .f32) (main_arg12 : FVec F S6144x2048 .f32) (main_arg13 : FVec F S6144 .f32) (main_arg14 : FVec F S6144 .f32) (main_arg15 : FVec F S1024x2048 .f32) (main_arg16 : FVec F S1024 .f32) (main_arg17 : FVec F S2048x1024 .f32) (main_arg18 : FVec F S2048 .f32) (main_arg19 : FVec F S1024x2048 .f32) (main_arg20 : FVec F S1024 .f32) : IVec S2048x1024 1 × IVec S4x1024 1 × IVec S4 1 × IVec S2048 1 × IVec S1024 1 × IVec S2048 1 × IVec S1024 1 × IVec S6144 1 × IVec S6144 1 × IVec S1024 1 × IVec S2048 1 × IVec S1024 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_v3 : FVec F S4x1024 .f32 := Host.absf main_arg1
  let main_cst_0 : FVec F S_ .f32 := constant S_ .f32 0x7F800000#32
  let main_v4 : FVec F S4x1024 .f32 := broadcastInDim S4x1024 ![] bcast_S_S4x1024 main_cst_0
  let main_v5 : IVec S4x1024 1 := cmpf .olt main_v3 main_v4
  let main_cst_1 : FVec F S_ .f32 := constant S_ .f32 0x00000000#32
  let main_v6 : FVec F S4 .f32 := broadcastInDim S4 ![] bcast_S_S4 main_cst_1
  let main_v7 : IVec S4 1 := cmpf .oeq main_arg2 main_v6
  let main_cst_2 : FVec F S_ .f32 := constant S_ .f32 0x00000000#32
  let main_v8 : FVec F S2048 .f32 := broadcastInDim S2048 ![] bcast_S_S2048 main_cst_2
  let main_v9 : IVec S2048 1 := cmpf .oeq main_arg4 main_v8
  let main_cst_3 : FVec F S_ .f32 := constant S_ .f32 0x00000000#32
  let main_v10 : FVec F S1024 .f32 := broadcastInDim S1024 ![] bcast_S_S1024 main_cst_3
  let main_v11 : IVec S1024 1 := cmpf .oeq main_arg6 main_v10
  let main_cst_4 : FVec F S_ .f32 := constant S_ .f32 0x00000000#32
  let main_v12 : FVec F S2048 .f32 := broadcastInDim S2048 ![] bcast_S_S2048 main_cst_4
  let main_v13 : IVec S2048 1 := cmpf .oeq main_arg8 main_v12
  let main_cst_5 : FVec F S_ .f32 := constant S_ .f32 0x00000000#32
  let main_v14 : FVec F S1024 .f32 := broadcastInDim S1024 ![] bcast_S_S1024 main_cst_5
  let main_v15 : IVec S1024 1 := cmpf .oeq main_arg10 main_v14
  let main_cst_6 : FVec F S_ .f32 := constant S_ .f32 0x00000000#32
  fn_part1 (F := F) main_arg13 main_arg14 main_arg16 main_arg18 main_arg20 main_v2 main_v5 main_v7 main_v9 main_v11 main_v13 main_v15 main_cst_6
-- ==== Kernel.lean ====
abbrev S2048x1024 : Shape := ⟨2, ![2048, 1024]⟩
abbrev S4x1024 : Shape := ⟨2, ![4, 1024]⟩
abbrev S4 : Shape := ⟨1, ![4]⟩
abbrev S2048 : Shape := ⟨1, ![2048]⟩
abbrev S1024x2048 : Shape := ⟨2, ![1024, 2048]⟩
abbrev S1024 : Shape := ⟨1, ![1024]⟩
abbrev S2048x1024x3 : Shape := ⟨3, ![2048, 1024, 3]⟩
abbrev S6144x1024 : Shape := ⟨2, ![6144, 1024]⟩
abbrev S6144x2048 : Shape := ⟨2, ![6144, 2048]⟩
abbrev S6144 : Shape := ⟨1, ![6144]⟩
abbrev S2048x1024x1 : Shape := ⟨3, ![2048, 1024, 1]⟩
abbrev S256x1024 : Shape := ⟨2, ![256, 1024]⟩
abbrev S2 : Shape := ⟨1, ![2]⟩
abbrev S5 : Shape := ⟨1, ![5]⟩
abbrev S256x4 : Shape := ⟨2, ![256, 4]⟩
abbrev S1x1 : Shape := ⟨2, ![1, 1]⟩
abbrev S1 : Shape := ⟨1, ![1]⟩
abbrev S_ : Shape := ⟨0, ![]⟩
abbrev S256x1 : Shape := ⟨2, ![256, 1]⟩
abbrev S256x2048 : Shape := ⟨2, ![256, 2048]⟩

abbrev nBuf : Space → Nat
  | .hbm => 24
  | .vmem => 10
  | .smem => 1
  | _ => 0

abbrev bufTy : (tb : Table) → Fin (tcTables nBuf tb) → BufTy
  | .hbm, ⟨0, _⟩ => ⟨S2048x1024, .f32⟩
  | .hbm, ⟨1, _⟩ => ⟨S4x1024, .f32⟩
  | .hbm, ⟨2, _⟩ => ⟨S4, .f32⟩
  | .hbm, ⟨3, _⟩ => ⟨S2048x1024, .f32⟩
  | .hbm, ⟨4, _⟩ => ⟨S2048, .f32⟩
  | .hbm, ⟨5, _⟩ => ⟨S1024x2048, .f32⟩
  | .hbm, ⟨6, _⟩ => ⟨S1024, .f32⟩
  | .hbm, ⟨7, _⟩ => ⟨S2048x1024x3, .f32⟩
  | .hbm, ⟨8, _⟩ => ⟨S2048, .f32⟩
  | .hbm, ⟨9, _⟩ => ⟨S1024x2048, .f32⟩
  | .hbm, ⟨10, _⟩ => ⟨S1024, .f32⟩
  | .hbm, ⟨11, _⟩ => ⟨S6144x1024, .f32⟩
  | .hbm, ⟨12, _⟩ => ⟨S6144x2048, .f32⟩
  | .hbm, ⟨13, _⟩ => ⟨S6144, .f32⟩
  | .hbm, ⟨14, _⟩ => ⟨S6144, .f32⟩
  | .hbm, ⟨15, _⟩ => ⟨S1024x2048, .f32⟩
  | .hbm, ⟨16, _⟩ => ⟨S1024, .f32⟩
  | .hbm, ⟨17, _⟩ => ⟨S2048x1024, .f32⟩
  | .hbm, ⟨18, _⟩ => ⟨S2048, .f32⟩
  | .hbm, ⟨19, _⟩ => ⟨S1024x2048, .f32⟩
  | .hbm, ⟨20, _⟩ => ⟨S1024, .f32⟩
  | .hbm, ⟨21, _⟩ => ⟨S2048x1024x1, .f32⟩
  | .hbm, ⟨22, _⟩ => ⟨S2048x1024, .f32⟩
  | .hbm, ⟨23, _⟩ => ⟨S2048x1024, .f32⟩
  | .local _ .vmem, ⟨0, _⟩ => ⟨S256x1024, .f32⟩
  | .local _ .vmem, ⟨1, _⟩ => ⟨S256x1024, .f32⟩
  | .local _ .vmem, ⟨2, _⟩ => ⟨S4x1024, .f32⟩
  | .local _ .vmem, ⟨3, _⟩ => ⟨S256x1024, .f32⟩
  | .local _ .vmem, ⟨4, _⟩ => ⟨S256x1024, .f32⟩
  | .local _ .vmem, ⟨5, _⟩ => ⟨S2048x1024, .f32⟩
  | .local _ .vmem, ⟨6, _⟩ => ⟨S1024x2048, .f32⟩
  | .local _ .vmem, ⟨7, _⟩ => ⟨S2048x1024, .f32⟩
  | .local _ .vmem, ⟨8, _⟩ => ⟨S1024x2048, .f32⟩
  | .local _ .vmem, ⟨9, _⟩ => ⟨S2048x1024, .f32⟩
  | .local _ .smem, ⟨0, _⟩ => ⟨S2, .i32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_scratch4 : Ref sig .tc := ⟨.vmem, 9, rfl⟩
abbrev cc0_scratch5 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S2048x1024 : Shape := ⟨2, ![2048, 1024]⟩
abbrev S4x1024 : Shape := ⟨2, ![4, 1024]⟩
abbrev S4 : Shape := ⟨1, ![4]⟩
abbrev S2048 : Shape := ⟨1, ![2048]⟩
abbrev S1024x2048 : Shape := ⟨2, ![1024, 2048]⟩
abbrev S1024 : Shape := ⟨1, ![1024]⟩
abbrev S2048x1024x3 : Shape := ⟨3, ![2048, 1024, 3]⟩
abbrev S6144x1024 : Shape := ⟨2, ![6144, 1024]⟩
abbrev S6144x2048 : Shape := ⟨2, ![6144, 2048]⟩
abbrev S6144 : Shape := ⟨1, ![6144]⟩
abbrev S1024x4 : Shape := ⟨2, ![1024, 4]⟩
abbrev S2048x4 : Shape := ⟨2, ![2048, 4]⟩
abbrev S1x4 : Shape := ⟨2, ![1, 4]⟩
abbrev S_ : Shape := ⟨0, ![]⟩
abbrev S2048x1 : Shape := ⟨2, ![2048, 1]⟩
abbrev S2048x2 : Shape := ⟨2, ![2048, 2]⟩
abbrev S1x2 : Shape := ⟨2, ![1, 2]⟩
abbrev S2 : Shape := ⟨1, ![2]⟩
abbrev S2048x2048 : Shape := ⟨2, ![2048, 2048]⟩
abbrev S1x2048 : Shape := ⟨2, ![1, 2048]⟩
abbrev S1x1024 : Shape := ⟨2, ![1, 1024]⟩
abbrev S2048x1024x1 : Shape := ⟨3, ![2048, 1024, 1]⟩
abbrev S2048x2048x1 : Shape := ⟨3, ![2048, 2048, 1]⟩
abbrev S1x2048x1 : Shape := ⟨3, ![1, 2048, 1]⟩
abbrev S1024x6144 : Shape := ⟨2, ![1024, 6144]⟩
abbrev S2048x6144 : Shape := ⟨2, ![2048, 6144]⟩
abbrev S1x6144 : Shape := ⟨2, ![1, 6144]⟩
abbrev S2048x1x1024 : Shape := ⟨3, ![2048, 1, 1024]⟩
abbrev S2048x4x1024 : Shape := ⟨3, ![2048, 4, 1024]⟩
abbrev S2x1 : Shape := ⟨2, ![2, 1]⟩
abbrev S1 : Shape := ⟨1, ![1]⟩
abbrev S1x1 : Shape := ⟨2, ![1, 1]⟩
abbrev S2048x2x1024 : Shape := ⟨3, ![2048, 2, 1024]⟩
abbrev S2048x2x1 : Shape := ⟨3, ![2048, 2, 1]⟩

abbrev nBuf : Space → Nat
  | .hbm => 194
  | .vmem => 0
  | .smem => 0
  | _ => 0

abbrev hbmTy0_0 (i : Nat) : BufTy := match i % 128 with
  | 0 => ⟨S2048x1024, .f32⟩
  | 1 => ⟨S4x1024, .f32⟩
  | 2 => ⟨S4, .f32⟩
  | 3 => ⟨S2048x1024, .f32⟩
  | 4 => ⟨S2048, .f32⟩
  | 5 => ⟨S1024x2048, .f32⟩
  | 6 => ⟨S1024, .f32⟩
  | 7 => ⟨S2048x1024x3, .f32⟩
  | 8 => ⟨S2048, .f32⟩
  | 9 => ⟨S1024x2048, .f32⟩
  | 10 => ⟨S1024, .f32⟩
  | 11 => ⟨S6144x1024, .f32⟩
  | 12 => ⟨S6144x2048, .f32⟩
  | 13 => ⟨S6144, .f32⟩
  | 14 => ⟨S6144, .f32⟩
  | 15 => ⟨S1024x2048, .f32⟩
  | 16 => ⟨S1024, .f32⟩
  | 17 => ⟨S2048x1024, .f32⟩
  | 18 => ⟨S2048, .f32⟩
  | 19 => ⟨S1024x2048, .f32⟩
  | 20 => ⟨S1024, .f32⟩
  | 21 => ⟨S1024x4, .f32⟩
  | 22 => ⟨S2048x4, .f32⟩
  | 23 => ⟨S1x4, .f32⟩
  | 24 => ⟨S2048x4, .f32⟩
  | 25 => ⟨S2048x4, .f32⟩
  | 26 => ⟨S_, .f32⟩
  | 27 => ⟨S2048, .f32⟩
  | 28 => ⟨S_, .f32⟩
  | 29 => ⟨S2048, .f32⟩
  | 30 => ⟨S2048, .f32⟩
  | 31 => ⟨S2048x1, .f32⟩
  | 32 => ⟨S2048x4, .f32⟩
  | 33 => ⟨S2048x4, .f32⟩
  | 34 => ⟨S2048x4, .f32⟩
  | 35 => ⟨S_, .f32⟩
  | 36 => ⟨S2048, .f32⟩
  | 37 => ⟨S2048x1, .f32⟩
  | 38 => ⟨S2048x4, .f32⟩
  | 39 => ⟨S2048x4, .f32⟩
  | 40 => ⟨S2048x2, .f32⟩
  | 41 => ⟨S2048x2, .i32⟩
  | 42 => ⟨S1x2, .i32⟩
  | 43 => ⟨S2, .i32⟩
  | 44 => ⟨S1024x2048, .f32⟩
  | 45 => ⟨S2048x2048, .f32⟩
  | 46 => ⟨S1x2048, .f32⟩
  | 47 => ⟨S2048x2048, .f32⟩
  | 48 => ⟨S2048x2048, .f32⟩
  | 49 => ⟨S_, .f32⟩
  | 50 => ⟨S2048x2048, .f32⟩
  | 51 => ⟨S2048x2048, .f32⟩
  | 52 => ⟨S2048x1024, .f32⟩
  | 53 => ⟨S2048x1024, .f32⟩
  | 54 => ⟨S1x1024, .f32⟩
  | 55 => ⟨S2048x1024, .f32⟩
  | 56 => ⟨S2048x1024, .f32⟩
  | 57 => ⟨S2048x1024x1, .f32⟩
  | 58 => ⟨S_, .i32⟩
  | 59 => ⟨S_, .f32⟩
  | 60 => ⟨S2048x1024x3, .f32⟩
  | 61 => ⟨S2048x1024x1, .f32⟩
  | 62 => ⟨S2048x1024, .f32⟩
  | 63 => ⟨S2048x1024x1, .f32⟩
  | 64 => ⟨S2048x1024, .f32⟩
  | 65 => ⟨S1024x2048, .f32⟩
  | 66 => ⟨S2048x2048, .f32⟩
  | 67 => ⟨S2048x1024x1, .f32⟩
  | 68 => ⟨S2048x1024, .f32⟩
  | 69 => ⟨S2048x1024x1, .f32⟩
  | 70 => ⟨S2048x1024, .f32⟩
  | 71 => ⟨S1024x2048, .f32⟩
  | 72 => ⟨S2048x2048, .f32⟩
  | 73 => ⟨S2048x2048, .f32⟩
  | 74 => ⟨S2048x1024x1, .f32⟩
  | 75 => ⟨S2048x1024, .f32⟩
  | 76 => ⟨S2048x1024x1, .f32⟩
  | 77 => ⟨S2048x1024, .f32⟩
  | 78 => ⟨S1024x2048, .f32⟩
  | 79 => ⟨S2048x2048, .f32⟩
  | 80 => ⟨S2048x2048, .f32⟩
  | 81 => ⟨S2048x2048x1, .f32⟩
  | 82 => ⟨S1x2048x1, .f32⟩
  | 83 => ⟨S2048x2048x1, .f32⟩
  | 84 => ⟨S2048x2048x1, .f32⟩
  | 85 => ⟨S_, .f32⟩
  | 86 => ⟨S2048x2048x1, .f32⟩
  | 87 => ⟨S2048x2048x1, .f32⟩
  | 88 => ⟨S_, .f32⟩
  | 89 => ⟨S2048x2048, .f32⟩
  | 90 => ⟨S_, .f32⟩
  | 91 => ⟨S2048x2048, .f32⟩
  | 92 => ⟨S2048x2048, .f32⟩
  | 93 => ⟨S2048x1024, .f32⟩
  | 94 => ⟨S2048x1024, .f32⟩
  | 95 => ⟨S1x1024, .f32⟩
  | 96 => ⟨S2048x1024, .f32⟩
  | 97 => ⟨S2048x1024, .f32⟩
  | 98 => ⟨S_, .f32⟩
  | 99 => ⟨S2048x2048, .f32⟩
  | 100 => ⟨S1024x6144, .f32⟩
  | 101 => ⟨S2048x6144, .f32⟩
  | 102 => ⟨S1x6144, .f32⟩
  | 103 => ⟨S2048x6144, .f32⟩
  | 104 => ⟨S2048x6144, .f32⟩
  | 105 => ⟨S2048x6144, .f32⟩
  | 106 => ⟨S2048x6144, .f32⟩
  | 107 => ⟨S1x6144, .f32⟩
  | 108 => ⟨S2048x6144, .f32⟩
  | 109 => ⟨S2048x6144, .f32⟩
  | 110 => ⟨S2048x2048, .f32⟩
  | 111 => ⟨S2048x2048, .f32⟩
  | 112 => ⟨S2048x2048, .f32⟩
  | 113 => ⟨S2048x2048, .f32⟩
  | 114 => ⟨S2048x2048, .f32⟩
  | 115 => ⟨S2048x2048, .f32⟩
  | 116 => ⟨S2048x2048, .f32⟩
  | 117 => ⟨S2048x2048, .f32⟩
  | 118 => ⟨S2048x2048, .f32⟩
  | 119 => ⟨S_, .f32⟩
  | 120 => ⟨S2048x2048, .f32⟩
  | 121 => ⟨S2048x2048, .f32⟩
  | 122 => ⟨S_, .f32⟩
  | 123 => ⟨S2048x2048, .f32⟩
  | 124 => ⟨S2048x2048, .f32⟩
  | 125 => ⟨S2048x2048, .f32⟩
  | 126 => ⟨S2048x2048, .f32⟩
  | 127 => ⟨S2048x2048, .f32⟩
  | _ => ⟨S2048x1024, .f32⟩

abbrev hbmTy0_1 (i : Nat) : BufTy := match i % 128 with
  | 0 => ⟨S_, .f32⟩
  | 1 => ⟨S2048x2048, .f32⟩
  | 2 => ⟨S2048x2048, .f32⟩
  | 3 => ⟨S_, .f32⟩
  | 4 => ⟨S2048x2048, .f32⟩
  | 5 => ⟨S2048x2048, .f32⟩
  | 6 => ⟨S2048x2048, .f32⟩
  | 7 => ⟨S2048x2048, .f32⟩
  | 8 => ⟨S2048x2048, .f32⟩
  | 9 => ⟨S_, .f32⟩
  | 10 => ⟨S2048x2048, .f32⟩
  | 11 => ⟨S2048x2048, .f32⟩
  | 12 => ⟨S2048x2048, .f32⟩
  | 13 => ⟨S2048x2048, .f32⟩
  | 14 => ⟨S2048x2048, .f32⟩
  | 15 => ⟨S2048x1024, .f32⟩
  | 16 => ⟨S2048x1024, .f32⟩
  | 17 => ⟨S1x1024, .f32⟩
  | 18 => ⟨S2048x1024, .f32⟩
  | 19 => ⟨S2048x1024, .f32⟩
  | 20 => ⟨S1024x2048, .f32⟩
  | 21 => ⟨S2048x2048, .f32⟩
  | 22 => ⟨S1x2048, .f32⟩
  | 23 => ⟨S2048x2048, .f32⟩
  | 24 => ⟨S2048x2048, .f32⟩
  | 25 => ⟨S_, .f32⟩
  | 26 => ⟨S2048x2048, .f32⟩
  | 27 => ⟨S2048x2048, .f32⟩
  | 28 => ⟨S2048x1024, .f32⟩
  | 29 => ⟨S2048x1024, .f32⟩
  | 30 => ⟨S1x1024, .f32⟩
  | 31 => ⟨S2048x1024, .f32⟩
  | 32 => ⟨S2048x1024, .f32⟩
  | 33 => ⟨S2048x1x1024, .f32⟩
  | 34 => ⟨S2048x1x1024, .f32⟩
  | 35 => ⟨S2048x1x1024, .f32⟩
  | 36 => ⟨S2048x1x1024, .f32⟩
  | 37 => ⟨S2048x4x1024, .f32⟩
  | 38 => ⟨S_, .i32⟩
  | 39 => ⟨S2, .i32⟩
  | 40 => ⟨S2, .i1⟩
  | 41 => ⟨S_, .i32⟩
  | 42 => ⟨S2, .i32⟩
  | 43 => ⟨S2, .i32⟩
  | 44 => ⟨S2, .i32⟩
  | 45 => ⟨S2x1, .i32⟩
  | 46 => ⟨S1, .i32⟩
  | 47 => ⟨S_, .i32⟩
  | 48 => ⟨S2x1, .i32⟩
  | 49 => ⟨S2x1, .i1⟩
  | 50 => ⟨S1x1, .i32⟩
  | 51 => ⟨S2x1, .i32⟩
  | 52 => ⟨S2x1, .i1⟩
  | 53 => ⟨S2x1, .i1⟩
  | 54 => ⟨S_, .i1⟩
  | 55 => ⟨S2, .i1⟩
  | 56 => ⟨S2048x2x1024, .f32⟩
  | 57 => ⟨S2048x2x1024, .i1⟩
  | 58 => ⟨S_, .f32⟩
  | 59 => ⟨S2048x2x1024, .f32⟩
  | 60 => ⟨S2048x2x1024, .f32⟩
  | 61 => ⟨S2048x2x1, .f32⟩
  | 62 => ⟨S2048x2x1024, .f32⟩
  | 63 => ⟨S2048x2x1024, .f32⟩
  | 64 => ⟨S_, .f32⟩
  | 65 => ⟨S2048x1024, .f32⟩
  | _ => ⟨S2048x1024, .f32⟩

abbrev hbmTy (i : Nat) : BufTy := match i / 128 with
  | 0 => hbmTy0_0 i
  | 1 => hbmTy0_1 i
  | _ => ⟨S2048x1024, .f32⟩

abbrev bufTy : (tb : Table) → Fin (tcTables nBuf tb) → BufTy
  | .hbm, ⟨i, _⟩ => hbmTy i
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_cst : Ref sig .tc := ⟨.hbm, 26, rfl⟩
abbrev main_v5 : Ref sig .tc := ⟨.hbm, 27, rfl⟩
abbrev main_cst_0 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_cst_1 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_values : Ref sig .tc := ⟨.hbm, 40, rfl⟩
abbrev main_indices : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_call0_cst : Ref sig .tc := ⟨.hbm, 49, rfl⟩
abbrev main_call0_v0 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_c : Ref sig .tc := ⟨.hbm, 58, rfl⟩
abbrev main_call1_v0 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_call2_cst : Ref sig .tc := ⟨.hbm, 85, rfl⟩
abbrev main_call2_v0 : Ref sig .tc := ⟨.hbm, 86, rfl⟩
abbrev main_v55 : Ref sig .tc := ⟨.hbm, 87, rfl⟩
abbrev main_cst_2 : Ref sig .tc := ⟨.hbm, 88, rfl⟩
abbrev main_v56 : Ref sig .tc := ⟨.hbm, 89, rfl⟩
abbrev main_cst_3 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_cst_4 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_cst_5 : Ref sig .tc := ⟨.hbm, 119, rfl⟩
abbrev main_v84 : Ref sig .tc := ⟨.hbm, 120, rfl⟩
abbrev main_v85 : Ref sig .tc := ⟨.hbm, 121, rfl⟩
abbrev main_cst_6 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_cst_7 : Ref sig .tc := ⟨.hbm, 128, rfl⟩
abbrev main_v91 : Ref sig .tc := ⟨.hbm, 129, rfl⟩
abbrev main_v92 : Ref sig .tc := ⟨.hbm, 130, rfl⟩
abbrev main_cst_8 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_cst_9 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_call3_cst : Ref sig .tc := ⟨.hbm, 153, rfl⟩
abbrev main_call3_v0 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_call4_c : Ref sig .tc := ⟨.hbm, 166, rfl⟩
abbrev main_call4_v0 : Ref sig .tc := ⟨.hbm, 167, rfl⟩
abbrev main_call4_v1 : Ref sig .tc := ⟨.hbm, 168, rfl⟩
abbrev main_call4_c_0 : Ref sig .tc := ⟨.hbm, 169, rfl⟩
abbrev main_call4_v2 : Ref sig .tc := ⟨.hbm, 170, rfl⟩
abbrev main_call4_v3 : Ref sig .tc := ⟨.hbm, 171, rfl⟩
abbrev main_call4_v4 : Ref sig .tc := ⟨.hbm, 172, rfl⟩
abbrev main_call4_v5 : Ref sig .tc := ⟨.hbm, 173, rfl⟩
abbrev main_call4_c_1 : Ref sig .tc := ⟨.hbm, 174, rfl⟩
abbrev main_call4_c_2 : Ref sig .tc := ⟨.hbm, 175, rfl⟩
abbrev main_call4_v6 : Ref sig .tc := ⟨.hbm, 176, rfl⟩
abbrev main_call4_v7 : Ref sig .tc := ⟨.hbm, 177, rfl⟩
abbrev main_call4_v8 : Ref sig .tc := ⟨.hbm, 178, rfl⟩
abbrev main_call4_v9 : Ref sig .tc := ⟨.hbm, 179, rfl⟩
abbrev main_call4_v10 : Ref sig .tc := ⟨.hbm, 180, rfl⟩
abbrev main_call4_v11 : Ref sig .tc := ⟨.hbm, 181, rfl⟩
abbrev main_call4_c_3 : Ref sig .tc := ⟨.hbm, 182, rfl⟩
abbrev main_call4_v12 : Ref sig .tc := ⟨.hbm, 183, rfl⟩
abbrev main_call4_v13 : Ref sig .tc := ⟨.hbm, 184, rfl⟩
abbrev main_call4_v14 : Ref sig .tc := ⟨.hbm, 185, rfl⟩
abbrev main_call4_cst : Ref sig .tc := ⟨.hbm, 186, rfl⟩
abbrev main_call4_v15 : Ref sig .tc := ⟨.hbm, 187, rfl⟩
abbrev main_v124 : Ref sig .tc := ⟨.hbm, 188, rfl⟩
abbrev main_v125 : Ref sig .tc := ⟨.hbm, 189, rfl⟩
abbrev main_v126 : Ref sig .tc := ⟨.hbm, 190, rfl⟩
abbrev main_v127 : Ref sig .tc := ⟨.hbm, 191, rfl⟩
abbrev main_cst_10 : Ref sig .tc := ⟨.hbm, 192, rfl⟩
abbrev main_v128 : Ref sig .tc := ⟨.hbm, 193, rfl⟩

abbrev nD : Nat := 1
abbrev τ : Topo := Topo.v7x

variable {F : FTy → Type} [FloatOps F]
-- ==== Proof.Common.lean ====
/-
  The names the proof of the kernel's run is written with: the scratch buffers, the weights left in HBM,
  the five transfer cells, and the weights of an expert as a function of its number.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Ring
public import Idealize.ShloMosaic.Lib.Tactic
public import Idealize.ShloMosaic.Lib.WordCmp

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's resources: the pipeline library's beside the counters of the body's own transfers. -/
local notation "𝕄" => MT nD τ sig Unit (Elt F) ℕ (Pipeline.UD sig nD τ) ℕ

variable (m : (ℓ : Loc nD τ sig) → Buf (Elt F) ℓ)

/-! ## The buffers -/

/-- A buffer whole, at contents `f`. -/
abbrev pt (c : Dev nD) (b : Ref sig .tc) (f : Buf (Elt F) ((c : Thread nD τ).loc b)) : sProp 𝕄 :=
  (Memref.whole b).view.loc (c : Thread nD τ) ↦{fullShare} f

/-- The cells of the body's own transfers, in the kernel's order. -/
abbrev osem : Fin 5 → SemLoc sig :=
  fun j => (![SemLoc.dma 5, SemLoc.dma 6, SemLoc.dma 7, SemLoc.dma 8, SemLoc.dma 9] : Fin 5 → SemLoc sig) j
theorem ownSemFacts : Pipeline.OwnSemFacts spec0 osem := by decide

/-- The five cells at zero, one by one. -/
abbrev cells (c : Dev nD) : sProp 𝕄 :=
  iprop(semVal ((c : Thread nD τ), SemLoc.dma 5) 0 ∗ semVal ((c : Thread nD τ), SemLoc.dma 6) 0
    ∗ semVal ((c : Thread nD τ), SemLoc.dma 7) 0 ∗ semVal ((c : Thread nD τ), SemLoc.dma 8) 0
    ∗ semVal ((c : Thread nD τ), SemLoc.dma 9) 0)

theorem ownSems_eq (c : Dev nD) :
    (Pipeline.ownSems0 (Ix := Unit) (Name := ℕ) (U := Pipeline.UD sig nD τ) (Lvl := ℕ) (Val := Elt F) (τ := τ) osem c : sProp 𝕄)
      = cells c := by
  rw [Pipeline.ownSems0_eq_of_list c osem [0, 1, 2, 3, 4] (by decide) (by decide)]; rfl

/-- The weights the body's transfers read, all left in HBM. -/
def H : Finset (Ref sig .tc) :=
  {main_arg3, main_arg5, main_v1, main_arg9, main_arg11, main_arg15, main_arg17, main_arg19}
theorem H_sub : H ⊆ Pipeline.restRefs sig spec0 := by decide

/-- Contents of every buffer of core `c`. -/
abbrev Contents (F : FTy → Type) (c : Dev nD) : Type := (b : Ref sig .tc) → Buf (Elt F) ((c : Thread nD τ).loc b)

/-- The weights in HBM, each whole at the contents `w` gives it. -/
abbrev weights (c : Dev nD) (w : Contents F c) : sProp 𝕄 :=
  iprop(pt c main_arg3 (w main_arg3) ∗ pt c main_arg5 (w main_arg5) ∗ pt c main_v1 (w main_v1)
    ∗ pt c main_arg9 (w main_arg9) ∗ pt c main_arg11 (w main_arg11) ∗ pt c main_arg15 (w main_arg15)
    ∗ pt c main_arg17 (w main_arg17) ∗ pt c main_arg19 (w main_arg19))

theorem weights_eq (c : Dev nD) :
    (bigSep H (fun b => ((c : Thread nD τ).loc b) ↦{fullShare} V m c b) : sProp 𝕄) = weights c (V m c) := by
  rw [BI.bigSep_eq_bigSepL_of_eq [main_arg3, main_arg5, main_v1, main_arg9, main_arg11, main_arg15, main_arg17, main_arg19]
    (by decide) (by decide)]; rfl

/-! ## The weights of an expert -/

/-- Rows 4096 to 6143 of the recurrent cell's input weights: the candidate gate's. -/
def candRows (W : Vec F S6144x1024 .f32) : Vec F S2048x1024 .f32 :=
  ((Memref.whole main_arg11 : Memref sig .tc .hbm S6144x1024 .f32).slice
    (Rect.unit (s := S6144x1024) ![4096, 0] S2048x1024.size inb_S6144x1024_S2048x1024_4096_0) (fun _ => rfl)).view.read (Elt F) W
/-- Rows 2048 to 4095: the update gate's. -/
def updRows (W : Vec F S6144x1024 .f32) : Vec F S2048x1024 .f32 :=
  ((Memref.whole main_arg11 : Memref sig .tc .hbm S6144x1024 .f32).slice
    (Rect.unit (s := S6144x1024) ![2048, 0] S2048x1024.size inb_S6144x1024_S2048x1024_2048_0) (fun _ => rfl)).view.read (Elt F) W

/-- Expert `e`'s first weights. -/
def firstW (c : Dev nD) (w : Contents F c) (e : BitVec 32) : Vec F S2048x1024 .f32 :=
  if e = 0#32 then w main_arg3 else if e = 1#32 then w main_v1 else if e = 3#32 then w main_arg17
  else candRows (w main_arg11)
/-- Expert `e`'s second weights. -/
def secondW (c : Dev nD) (w : Contents F c) (e : BitVec 32) : Vec F S1024x2048 .f32 :=
  if e = 0#32 then w main_arg5 else if e = 1#32 then w main_arg9 else if e = 3#32 then w main_arg19
  else w main_arg15

end Cert.KernelIdeal.Hand

end
-- ==== Proof.Point.lean ====
/-
  One grid point: the words the kernel keeps, the selection, what a point stores, and the run of a point
  after the first.
-/
module

public import proofs.«01_k».proof.Proof.Common
public import Idealize.ShloMosaic.Lib.VecWindow

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The first word the kernel keeps: the best expert's number. -/
def word0 (mt : Vec F S2 .i32) : BitVec 32 := mt (fun a => ⟨0, (by decide : ∀ a, 0 < S2.size a) a⟩)
/-- The second word: the second-best expert's number. -/
def word1 (mt : Vec F S2 .i32) : BitVec 32 := mt (fun a => ⟨1, (by decide : ∀ a, 1 < S2.size a) a⟩)
/-- The bit a grid point tests: is the recurrent cell one of the two selected experts. -/
def usesCell (mt : Vec F S2 .i32) : BitVec 1 :=
  Scalar.cmpi .ne (Scalar.extui (Scalar.cmpi .eq (Scalar.select (Scalar.cmpi .eq (word0 mt) 2#32) (word0 mt) (word1 mt)) 2#32) : BitVec 32) 0#32
/-- What a grid point stores: the two experts' outputs on its block of rows, weighted and added. -/
def stepOut (x : Vec F S256x1024 .f32) (wg : Vec F S4x1024 .f32)
    (a1 : Vec F S2048x1024 .f32) (b1 : Vec F S1024x2048 .f32) (a2 : Vec F S2048x1024 .f32) (b2 : Vec F S1024x2048 .f32)
    (az : Vec F S2048x1024 .f32) (mt : Vec F S2 .i32) : Vec F S256x1024 .f32 :=
  k0_pay3 x (k0_pay23 x wg (word0 mt)) (k0_pay24 x wg (word0 mt)) a1 b1
    (if usesCell mt = 1#1 then k0_pay1 x az a2 b2 else k0_pay2 x a2 b2)

/-- The recurrent cell's update-gate rows only matter where the cell is selected. -/
theorem stepOut_congr {x : Vec F S256x1024 .f32} {wg : Vec F S4x1024 .f32}
    {a1 : Vec F S2048x1024 .f32} {b1 : Vec F S1024x2048 .f32} {a2 : Vec F S2048x1024 .f32} {b2 : Vec F S1024x2048 .f32}
    {az az' : Vec F S2048x1024 .f32} {mt : Vec F S2 .i32} (h : usesCell mt = 1#1 → az = az') :
    stepOut x wg a1 b1 a2 b2 az mt = stepOut x wg a1 b1 a2 b2 az' mt := by
  unfold stepOut
  by_cases hb : usesCell mt = 1#1
  · rw [h hb]
  · rw [if_neg hb, if_neg hb]

/-! ## The selection -/

/-- The bits of the scan: expert 1, 2, 3 beats the best so far; and beats the second best so far. -/
def beats1 (l : FVec F S256x4 .f32) : BitVec 1 := Scalar.cmpf .ogt (k0_pay5 l) (k0_pay4 l)
def beats2 (l : FVec F S256x4 .f32) : BitVec 1 := Scalar.cmpf .ogt (k0_pay6 l) (k0_pay9 l)
def beats3 (l : FVec F S256x4 .f32) : BitVec 1 := Scalar.cmpf .ogt (k0_pay7 l) (k0_pay11 l)
def next1 (l : FVec F S256x4 .f32) : BitVec 1 :=
  Scalar.andi (Scalar.cmpf .ogt (k0_pay5 l) (Scalar.ofBits .f32 0xFF800000#32)) (Scalar.xori (beats1 l) 1#1)
def next2 (l : FVec F S256x4 .f32) : BitVec 1 := Scalar.andi (Scalar.cmpf .ogt (k0_pay6 l) (k0_pay8 l)) (Scalar.xori (beats2 l) 1#1)
def next3 (l : FVec F S256x4 .f32) : BitVec 1 := Scalar.andi (Scalar.cmpf .ogt (k0_pay7 l) (k0_pay10 l)) (Scalar.xori (beats3 l) 1#1)

/-- The best expert's number after the scan, on its bits. -/
def bestOf (p1 p2 p3 : BitVec 1) : BitVec 32 :=
  Scalar.select p3 3#32 (Scalar.select p2 2#32 (Scalar.select p1 1#32 0#32))
/-- The second best's. -/
def secondOf (p1 p2 p3 q1 q2 q3 : BitVec 1) : BitVec 32 :=
  Scalar.select p3 (Scalar.select p2 2#32 (Scalar.select p1 1#32 0#32))
    (Scalar.select q3 3#32 (Scalar.select p2 (Scalar.select p1 1#32 0#32)
      (Scalar.select q2 2#32 (Scalar.select p1 0#32 (Scalar.select q1 1#32 0#32)))))

/-- The best and the second-best expert on the logits `l` of the first block. -/
def best (l : FVec F S256x4 .f32) : BitVec 32 := bestOf (beats1 l) (beats2 l) (beats3 l)
def second (l : FVec F S256x4 .f32) : BitVec 32 :=
  secondOf (beats1 l) (beats2 l) (beats3 l) (next1 l) (next2 l) (next3 l)
/-- The expert in slot 1, never the recurrent cell; -/
def slot1 (b s : BitVec 32) : BitVec 32 := Scalar.select (Scalar.cmpi .eq b 2#32) s b
/-- and in slot 2, the recurrent cell where it is one of the two. -/
def slot2 (b s : BitVec 32) : BitVec 32 := Scalar.select (Scalar.cmpi .eq b 2#32) b s

/-- Whatever the scan's bits, slot 1 holds one of the three experts that are not the recurrent cell. -/
theorem slot1_range_bits : ∀ p1 p2 p3 q1 q2 q3 : BitVec 1,
    slot1 (bestOf p1 p2 p3) (secondOf p1 p2 p3 q1 q2 q3) = 0#32 ∨ slot1 (bestOf p1 p2 p3) (secondOf p1 p2 p3 q1 q2 q3) = 1#32
      ∨ slot1 (bestOf p1 p2 p3) (secondOf p1 p2 p3 q1 q2 q3) = 3#32 := by decide
theorem slot2_range_bits : ∀ p1 p2 p3 q1 q2 q3 : BitVec 1,
    slot2 (bestOf p1 p2 p3) (secondOf p1 p2 p3 q1 q2 q3) = 0#32 ∨ slot2 (bestOf p1 p2 p3) (secondOf p1 p2 p3 q1 q2 q3) = 1#32
      ∨ slot2 (bestOf p1 p2 p3) (secondOf p1 p2 p3 q1 q2 q3) = 2#32 ∨ slot2 (bestOf p1 p2 p3) (secondOf p1 p2 p3 q1 q2 q3) = 3#32 := by decide

/-- The two words the kernel keeps. -/
def words (b s : BitVec 32) : Vec F S2 .i32 := fun y => if (y 0).val = 0 then b else s

/-- A grid point tests for the recurrent cell exactly where slot 2 holds it. -/
theorem usesCell_words (b s : BitVec 32) (h : usesCell (F := F) (words b s) = 1#1) : slot2 b s = 2#32 := by
  change Scalar.cmpi .ne (Scalar.extui (Scalar.cmpi .eq (slot2 b s) 2#32) : BitVec 32) 0#32 = 1#1 at h
  by_contra hn
  rw [show Scalar.cmpi .eq (slot2 b s) 2#32 = 0#1 from by
    show BitVec.ofBool (slot2 b s == 2#32) = 0#1; rw [beq_false_of_ne hn]; rfl] at h
  exact absurd h (by decide)

/-- A grid point after the first stores `stepOut` of its block of rows, the scratch weights and the kept words, and leaves
    everything else as it was. -/
theorem later_run (c : Dev nD) (i : grid0.Coords) (hi : (i 0).val ≠ 0)
    (arg1 : Memref sig .tc .vmem S256x1024 .f32) (harg1 : arg1.IsWhole) (arg2 : Memref sig .tc .vmem S4x1024 .f32) (harg2 : arg2.IsWhole)
    (arg11 : Memref sig .tc .vmem S256x1024 .f32) (harg11 : arg11.IsWhole)
    (x : Vec F S256x1024 .f32) (wg : Vec F S4x1024 .f32)
    (a1 : Vec F S2048x1024 .f32) (b1 : Vec F S1024x2048 .f32) (a2 : Vec F S2048x1024 .f32) (b2 : Vec F S1024x2048 .f32)
    (az : Vec F S2048x1024 .f32) (mt : Vec F S2 .i32)
    (W : Waits sig Unit) (K : PUnit → sProp 𝕄) :
    iprop(owns (c : Thread nD τ) arg1 fullShare x ∗ owns (c : Thread nD τ) arg2 fullShare wg ∗ (∃ d, owns (c : Thread nD τ) arg11 fullShare d)
      ∗ pt c cc0_scratch0 a1 ∗ pt c cc0_scratch1 b1 ∗ pt c cc0_scratch2 a2 ∗ pt c cc0_scratch3 b2 ∗ pt c cc0_scratch4 az ∗ pt c cc0_scratch5 mt
      ∗ (iprop(owns (c : Thread nD τ) arg1 fullShare x ∗ owns (c : Thread nD τ) arg2 fullShare wg
          ∗ owns (c : Thread nD τ) arg11 fullShare (stepOut x wg a1 b1 a2 b2 az mt)
          ∗ pt c cc0_scratch0 a1 ∗ pt c cc0_scratch1 b1 ∗ pt c cc0_scratch2 a2 ∗ pt c cc0_scratch3 b2 ∗ pt c cc0_scratch4 az
          ∗ pt c cc0_scratch5 mt) -∗ K ⟨⟩))
      ⊢ wp frame (wpE (defs₀ (F := F)) Variants.none c none) Set.univ
          (cc0__body i arg1 harg1 arg2 harg2 (Memref.whole main_arg3) (Memref.isWhole_whole _) (Memref.whole main_arg5) (Memref.isWhole_whole _) (Memref.whole main_v1) (Memref.isWhole_whole _) (Memref.whole main_arg9) (Memref.isWhole_whole _) (Memref.whole main_arg11) (Memref.isWhole_whole _) (Memref.whole main_arg15) (Memref.isWhole_whole _) (Memref.whole main_arg17) (Memref.isWhole_whole _) (Memref.whole main_arg19) (Memref.isWhole_whole _) arg11 harg11 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6) K := by
  rw [cc0__body_eq_skeleton]; unfold cc0__body_skel owns
  iintro ⟨⟨%fx, %hx, H1⟩, ⟨%fg, %hg, H2⟩, ⟨%d, %fo, -, Ho⟩, HS0, HS1, HS2, HS3, HS4, HS5, Hk⟩
  have hc : ¬ Scalar.cmpi .ne (Scalar.extui (Scalar.cmpi .eq (BitVec.ofNat 32 (i 0).val) 0#32) : BitVec 32) 0#32 = 1#1 := by
    revert hi; generalize i 0 = j; revert j; decide
  have hrx : arg1.view.readAt (Elt F) (Rect.unit (s := S256x1024) ![0, 0] S256x1024.size inb_S256x1024_S256x1024_0_0).toLoadRect fx = x :=
    (View.readAt_full _ _ _).trans hx
  have hrg : arg2.view.readAt (Elt F) (Rect.unit (s := S4x1024) ![0, 0] S4x1024.size inb_S4x1024_S4x1024_0_0).toLoadRect fg = wg :=
    (View.readAt_full _ _ _).trans hg
  have hr0 : (Memref.whole cc0_scratch0).view.readAt (Elt F) (Rect.unit (s := S2048x1024) ![0, 0] S2048x1024.size inb_S2048x1024_S2048x1024_0_0).toLoadRect a1 = a1 :=
    View.readAt_full _ _ _
  have hr1 : (Memref.whole cc0_scratch1).view.readAt (Elt F) (Rect.unit (s := S1024x2048) ![0, 0] S1024x2048.size inb_S1024x2048_S1024x2048_0_0).toLoadRect b1 = b1 :=
    View.readAt_full _ _ _
  have hr2 : (Memref.whole cc0_scratch2).view.readAt (Elt F) (Rect.unit (s := S2048x1024) ![0, 0] S2048x1024.size inb_S2048x1024_S2048x1024_0_0).toLoadRect a2 = a2 :=
    View.readAt_full _ _ _
  have hr3 : (Memref.whole cc0_scratch3).view.readAt (Elt F) (Rect.unit (s := S1024x2048) ![0, 0] S1024x2048.size inb_S1024x2048_S1024x2048_0_0).toLoadRect b2 = b2 :=
    View.readAt_full _ _ _
  have hr4 : (Memref.whole cc0_scratch4).view.readAt (Elt F) (Rect.unit (s := S2048x1024) ![0, 0] S2048x1024.size inb_S2048x1024_S2048x1024_0_0).toLoadRect az = az :=
    View.readAt_full _ _ _
  have hm0 : (Memref.whole cc0_scratch5).view.readAt (Elt F) (Rect.unit (s := S2) ![0] S1.size inb_S2_S1_0).toLoadRect mt = fun _ => word0 mt := by
    funext y; exact congrArg mt (funext fun a => Fin.ext (by
      fin_cases a; show 0 + 1 * (y 0).val = 0; have : (y 0).val < 1 := (y 0).isLt; omega))
  have hm1 : (Memref.whole cc0_scratch5).view.readAt (Elt F) (Rect.unit (s := S2) ![1] S1.size inb_S2_S1_1).toLoadRect mt = fun _ => word1 mt := by
    funext y; exact congrArg mt (funext fun a => Fin.ext (by
      fin_cases a; show 1 + 1 * (y 0).val = 1; have : (y 0).val < 1 := (y 0).isLt; omega))
  sl_exec
  by_cases hb : later_run.sl.v50 mt = 1#1
  all_goals
    sl_exec
    sl_step
    iapply Hk
    isplitl [H1]; · iexists fx; isplitr; (· ipureintro; exact hx); iexact H1
    isplitl [H2]; · iexists fg; isplitr; (· ipureintro; exact hg); iexact H2
    isplitl [Ho]
    · iexists _; isplitr; swap; (· iexact Ho); ipureintro
      refine (View.read_writes_full _ _ _ _ _).trans ?_
      unfold stepOut
      first | rw [if_pos (show usesCell mt = 1#1 from hb)] | rw [if_neg (show ¬ usesCell mt = 1#1 from hb)]
      rfl
    isplitl [HS0]; · iexact HS0
    isplitl [HS1]; · iexact HS1
    isplitl [HS2]; · iexact HS2
    isplitl [HS3]; · iexact HS3
    isplitl [HS4]; · iexact HS4
    iexact HS5

end Cert.KernelIdeal.Hand

end
-- ==== Proof.Fetch.lean ====
/-
  The transfers of the first grid point: whichever two experts were selected, the four (or five) transfers
  started and waited for leave the two experts' weights in the scratch buffers and every cell at zero.
-/
module

public import proofs.«01_k».proof.Proof.Common

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

set_option maxHeartbeats 4000000 in
/-- The transfers, on the selected experts' numbers `v96` (slot 1) and `v98 = select v97 v92 v91` (slot 2), and the
    last wait, made only when slot 2 is the recurrent cell; what follows is `kk`. -/
theorem fetch_run {α : Type} (c : Dev nD) (w : Contents F c) (i : grid0.Coords)
    (arg1 : Memref sig .tc .vmem S256x1024 .f32) (harg1 : arg1.IsWhole) (arg2 : Memref sig .tc .vmem S4x1024 .f32) (harg2 : arg2.IsWhole)
    (arg11 : Memref sig .tc .vmem S256x1024 .f32) (harg11 : arg11.IsWhole)
    (v91 v92 v96 : BitVec 32) (v97 : BitVec 1) (e2 : BitVec 32) (he2 : Scalar.select v97 v92 v91 = e2)
    (h1 : v96 = 0#32 ∨ v96 = 1#32 ∨ v96 = 3#32) (h2 : e2 = 0#32 ∨ e2 = 1#32 ∨ e2 = 2#32 ∨ e2 = 3#32)
    (W : Waits sig Unit) (kk : Prog (TpuEff nD τ sig (Elt F) Λ₀ .tc) α) (K : α → sProp 𝕄) :
    iprop((∃ f, pt c cc0_scratch0 f) ∗ (∃ f, pt c cc0_scratch1 f) ∗ (∃ f, pt c cc0_scratch2 f) ∗ (∃ f, pt c cc0_scratch3 f)
        ∗ (∃ f, pt c cc0_scratch4 f)
        ∗ cells c ∗ weights c w ∗ owes (c : Thread nD τ) 0 W
        ∗ (iprop((∃ f, ⌜f = firstW c w v96⌝ ∗ pt c cc0_scratch0 f) ∗ (∃ f, ⌜f = secondW c w v96⌝ ∗ pt c cc0_scratch1 f)
            ∗ (∃ f, ⌜f = firstW c w e2⌝ ∗ pt c cc0_scratch2 f) ∗ (∃ f, ⌜f = secondW c w e2⌝ ∗ pt c cc0_scratch3 f)
            ∗ (∃ f, ⌜e2 = 2#32 → f = updRows (w main_arg11)⌝ ∗ pt c cc0_scratch4 f)
            ∗ cells c ∗ weights c w ∗ (∃ W', owes (c : Thread nD τ) 0 W'))
          -∗ wp frame (wpE (defs₀ (F := F)) Variants.none c none) Set.univ kk K))
      ⊢ wp frame (wpE (defs₀ (F := F)) Variants.none c none) Set.univ
          (do
            let ⟨v98, c2⟩ ← k0_part2 i arg1 harg1 arg2 harg2 (Memref.whole main_arg3) (Memref.isWhole_whole _) (Memref.whole main_arg5) (Memref.isWhole_whole _) (Memref.whole main_v1) (Memref.isWhole_whole _) (Memref.whole main_arg9) (Memref.isWhole_whole _) (Memref.whole main_arg11) (Memref.isWhole_whole _) (Memref.whole main_arg15) (Memref.isWhole_whole _) (Memref.whole main_arg17) (Memref.isWhole_whole _) (Memref.whole main_arg19) (Memref.isWhole_whole _) arg11 harg11 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 v91 v92 v96 v97
            if Scalar.cmpi .ne (Scalar.extui (Scalar.cmpi .eq v98 c2) : BitVec 32) 0#32 = 1#1 then do
              Prog.lift (.waitDma2 ((SemArray.slice cc0_scratch6 (Rect.unit (s := S5) ![4] S1.size inb_S5_S1_4)).squeeze S_ squeezes_S1_S_).sem (Memref.whole main_arg3) (Memref.whole cc0_scratch4) (Memref.isWhole_whole _).wordExact (Memref.isWhole_whole _).wordExact)
              kk
            else kk) K := by
  rw [k0_part2_eq_skeleton]; unfold k0_part2_skel
  rw [he2]
  iintro ⟨⟨%f0, HS0⟩, ⟨%f1, HS1⟩, ⟨%f2, HS2⟩, ⟨%f3, HS3⟩, ⟨%f4, HS4⟩, ⟨Hq0, Hq1, Hq2, Hq3, Hq4⟩,
    ⟨Hw0, Hw1, Hw2, Hw3, Hw4, Hw5, Hw6, Hw7⟩, HW, Hk⟩
  rcases h1 with rfl | rfl | rfl <;> rcases h2 with rfl | rfl | rfl | rfl
  all_goals
    set_option sl_exec.lendShare "Hw0, Hw1, Hw2, Hw3, Hw4, Hw5, Hw6, Hw7" in sl_exec (disch := decide)
    iapply Hk
    isplitl [HS0]; · iexists _; isplitr; swap; (· iexact HS0); ipureintro; exact View.write_whole_univ _ _ _
    isplitl [HS1]; · iexists _; isplitr; swap; (· iexact HS1); ipureintro; exact View.write_whole_univ _ _ _
    isplitl [HS2]; · iexists _; isplitr; swap; (· iexact HS2); ipureintro; exact View.write_whole_univ _ _ _
    isplitl [HS3]; · iexists _; isplitr; swap; (· iexact HS3); ipureintro; exact View.write_whole_univ _ _ _
    isplitl [HS4]
    · iexists _; isplitr; swap; (· iexact HS4)
      ipureintro; first | exact fun h => absurd h (by decide) | exact fun _ => View.write_whole_univ _ _ _
    isplitl [Hq0 Hq1 Hq2 Hq3 Hq4]
    · isplitl [Hq0]; · iexact Hq0
      isplitl [Hq1]; · iexact Hq1
      isplitl [Hq2]; · iexact Hq2
      isplitl [Hq3]; · iexact Hq3
      iexact Hq4
    isplitl [Hw0 Hw1 Hw2 Hw3 Hw4 Hw5 Hw6 Hw7]
    · isplitl [Hw0]; · iexact Hw0
      isplitl [Hw1]; · iexact Hw1
      isplitl [Hw2]; · iexact Hw2
      isplitl [Hw3]; · iexact Hw3
      isplitl [Hw4]; · iexact Hw4
      isplitl [Hw5]; · iexact Hw5
      isplitl [Hw6]; · iexact Hw6
      iexact Hw7
    iexists _; iexact HW

end Cert.KernelIdeal.Hand

end
-- ==== Proof.First.lean ====
/-
  The first grid point: the selection is made and kept, the selected experts' weights are copied into the
  scratch buffers, and the first block of rows is computed.
-/
module

public import proofs.«01_k».proof.Proof.Point
public import proofs.«01_k».proof.Proof.Fetch
public import Idealize.ShloMosaic.Lib.WritesUnit
public import Idealize.ShloMosaic.Lib.VecWindow

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The two stores of the selection leave the two words, whatever the buffer held. -/
theorem words_written (f : (Memref.whole cc0_scratch5).view.ty.Contents (Elt F)) (b s : BitVec 32) :
    (Memref.whole cc0_scratch5).view.writes (Elt F) f
      [⟨Rect.unit (s := S2) ![1] S1.size inb_S2_S1_1, fun _ => s⟩, ⟨Rect.unit (s := S2) ![0] S1.size inb_S2_S1_0, fun _ => b⟩]
      = words (F := F) b s := by
  funext y
  change (Memref.whole cc0_scratch5).view.read (Elt F) ((Memref.whole cc0_scratch5).view.writes (Elt F) f
    [⟨Rect.unit (s := S2) ![1] S1.size inb_S2_S1_1, fun _ => s⟩, ⟨Rect.unit (s := S2) ![0] S1.size inb_S2_S1_0, fun _ => b⟩]) y = _
  have hy : (y 0).val < 2 := (y 0).isLt
  rw [View.read_writes_cons_unit _ _ _ _ _ _ rfl]
  by_cases h0 : (y 0).val = 0
  · rw [dif_neg (fun h => by have := (h 0).1; change 1 ≤ (y 0).val at this; omega), View.read_writes_cons_unit _ _ _ _ _ _ rfl,
      dif_pos (fun a => by fin_cases a; constructor; · exact Nat.zero_le _
                           · show (y 0).val < 0 + 1; omega)]
    exact (if_pos h0).symm
  · rw [dif_pos (fun a => by fin_cases a; constructor; · show 1 ≤ (y 0).val; omega
                             · show (y 0).val < 1 + 1; omega)]
    exact (if_neg h0).symm

/-- The selection: it leaves the two experts' numbers in the kept words and returns them with slot 1's. -/
theorem select_run (c : Dev nD) (i : grid0.Coords)
    (arg1 : Memref sig .tc .vmem S256x1024 .f32) (harg1 : arg1.IsWhole) (arg2 : Memref sig .tc .vmem S4x1024 .f32) (harg2 : arg2.IsWhole)
    (arg11 : Memref sig .tc .vmem S256x1024 .f32) (harg11 : arg11.IsWhole) (l : FVec F S256x4 .f32)
    (K : (Σ' (_ : BitVec 32) (_ : BitVec 32) (_ : BitVec 32), BitVec 1) → sProp 𝕄) :
    iprop((∃ f, pt c cc0_scratch5 f) ∗ (iprop(∃ f, ⌜f = words (best l) (second l)⌝ ∗ pt c cc0_scratch5 f)
        -∗ K ⟨second l, best l, slot1 (best l) (second l), Scalar.cmpi .eq (best l) 2#32⟩))
      ⊢ wp frame (wpE (defs₀ (F := F)) Variants.none c none) Set.univ
          (k0_part1 i arg1 harg1 arg2 harg2 (Memref.whole main_arg3) (Memref.isWhole_whole _) (Memref.whole main_arg5) (Memref.isWhole_whole _) (Memref.whole main_v1) (Memref.isWhole_whole _) (Memref.whole main_arg9) (Memref.isWhole_whole _) (Memref.whole main_arg11) (Memref.isWhole_whole _) (Memref.whole main_arg15) (Memref.isWhole_whole _) (Memref.whole main_arg17) (Memref.isWhole_whole _) (Memref.whole main_arg19) (Memref.isWhole_whole _) arg11 harg11 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 l) K := by
  rw [k0_part1_eq_skeleton]; unfold k0_part1_skel
  iintro ⟨⟨%f, HS⟩, Hk⟩
  sl_exec
  sl_step
  rw [show select_run.sl.v91 l = second l from rfl, show select_run.sl.v92 l = best l from rfl,
    show select_run.sl.v96 l = slot1 (best l) (second l) from rfl, show select_run.sl.v95 l = Scalar.cmpi .eq (best l) 2#32 from rfl]
  iapply Hk
  iexists _; isplitr; swap; (· iexact HS); ipureintro; exact words_written _ _ _

/-- The two experts' numbers on the first block `x` and the gate's weights `wg`. -/
def bestIx (x : Vec F S256x1024 .f32) (wg : Vec F S4x1024 .f32) : BitVec 32 := best (k0_pay12 x wg)
def secondIx (x : Vec F S256x1024 .f32) (wg : Vec F S4x1024 .f32) : BitVec 32 := second (k0_pay12 x wg)
def slot1Ix (x : Vec F S256x1024 .f32) (wg : Vec F S4x1024 .f32) : BitVec 32 := slot1 (bestIx x wg) (secondIx x wg)
def slot2Ix (x : Vec F S256x1024 .f32) (wg : Vec F S4x1024 .f32) : BitVec 32 := slot2 (bestIx x wg) (secondIx x wg)
theorem slot1Ix_range (x : Vec F S256x1024 .f32) (wg : Vec F S4x1024 .f32) :
    slot1Ix x wg = 0#32 ∨ slot1Ix x wg = 1#32 ∨ slot1Ix x wg = 3#32 := slot1_range_bits _ _ _ _ _ _
theorem slot2Ix_range (x : Vec F S256x1024 .f32) (wg : Vec F S4x1024 .f32) :
    slot2Ix x wg = 0#32 ∨ slot2Ix x wg = 1#32 ∨ slot2Ix x wg = 2#32 ∨ slot2Ix x wg = 3#32 := slot2_range_bits _ _ _ _ _ _

/-- What a point stores once the first point, with rows `x0`, has made the selection. -/
def pointOut (c : Dev nD) (w : Contents F c) (x0 x : Vec F S256x1024 .f32) (wg : Vec F S4x1024 .f32) : Vec F S256x1024 .f32 :=
  stepOut x wg (firstW c w (slot1Ix x0 wg)) (secondW c w (slot1Ix x0 wg)) (firstW c w (slot2Ix x0 wg)) (secondW c w (slot2Ix x0 wg))
    (updRows (w main_arg11)) (words (bestIx x0 wg) (secondIx x0 wg))

/-- What the scratch buffers hold from the first point on. -/
abbrev held (c : Dev nD) (w : Contents F c) (x0 : Vec F S256x1024 .f32) (wg : Vec F S4x1024 .f32) : sProp 𝕄 :=
  iprop(pt c cc0_scratch0 (firstW c w (slot1Ix x0 wg)) ∗ pt c cc0_scratch1 (secondW c w (slot1Ix x0 wg))
    ∗ pt c cc0_scratch2 (firstW c w (slot2Ix x0 wg)) ∗ pt c cc0_scratch3 (secondW c w (slot2Ix x0 wg))
    ∗ (∃ f, ⌜slot2Ix x0 wg = 2#32 → f = updRows (w main_arg11)⌝ ∗ pt c cc0_scratch4 f)
    ∗ pt c cc0_scratch5 (words (bestIx x0 wg) (secondIx x0 wg)))

set_option maxHeartbeats 1000000 in
/-- The first point, whole. -/
theorem first_run (c : Dev nD) (i : grid0.Coords) (hi : (i 0).val = 0) (w : Contents F c)
    (arg1 : Memref sig .tc .vmem S256x1024 .f32) (harg1 : arg1.IsWhole) (arg2 : Memref sig .tc .vmem S4x1024 .f32) (harg2 : arg2.IsWhole)
    (arg11 : Memref sig .tc .vmem S256x1024 .f32) (harg11 : arg11.IsWhole)
    (x : Vec F S256x1024 .f32) (wg : Vec F S4x1024 .f32)
    (W : Waits sig Unit) (K : PUnit → sProp 𝕄) :
    iprop(owns (c : Thread nD τ) arg1 fullShare x ∗ owns (c : Thread nD τ) arg2 fullShare wg ∗ (∃ d, owns (c : Thread nD τ) arg11 fullShare d)
      ∗ (∃ f, pt c cc0_scratch0 f) ∗ (∃ f, pt c cc0_scratch1 f) ∗ (∃ f, pt c cc0_scratch2 f) ∗ (∃ f, pt c cc0_scratch3 f)
      ∗ (∃ f, pt c cc0_scratch4 f) ∗ (∃ f, pt c cc0_scratch5 f)
      ∗ cells c ∗ weights c w ∗ owes (c : Thread nD τ) 0 W
      ∗ (iprop(owns (c : Thread nD τ) arg1 fullShare x ∗ owns (c : Thread nD τ) arg2 fullShare wg
          ∗ owns (c : Thread nD τ) arg11 fullShare (pointOut c w x x wg) ∗ held c w x wg
          ∗ cells c ∗ weights c w ∗ (∃ W', owes (c : Thread nD τ) 0 W')) -∗ K ⟨⟩))
      ⊢ wp frame (wpE (defs₀ (F := F)) Variants.none c none) Set.univ
          (cc0__body i arg1 harg1 arg2 harg2 (Memref.whole main_arg3) (Memref.isWhole_whole _) (Memref.whole main_arg5) (Memref.isWhole_whole _) (Memref.whole main_v1) (Memref.isWhole_whole _) (Memref.whole main_arg9) (Memref.isWhole_whole _) (Memref.whole main_arg11) (Memref.isWhole_whole _) (Memref.whole main_arg15) (Memref.isWhole_whole _) (Memref.whole main_arg17) (Memref.isWhole_whole _) (Memref.whole main_arg19) (Memref.isWhole_whole _) arg11 harg11 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6) K := by
  rw [cc0__body_eq_skeleton]; unfold cc0__body_skel
  rw [k0_part3_eq_skeleton]; unfold k0_part3_skel owns
  iintro ⟨⟨%fx, %hx, H1⟩, ⟨%fg, %hg, H2⟩, ⟨%d, %fo, -, Ho⟩, HS0, HS1, HS2, HS3, HS4, HS5, HC, Hw, HW, Hk⟩
  have hc : Scalar.cmpi .ne (Scalar.extui (Scalar.cmpi .eq (BitVec.ofNat 32 (i 0).val) 0#32) : BitVec 32) 0#32 = 1#1 := by
    rw [hi]; decide
  have hrx : arg1.view.readAt (Elt F) (Rect.unit (s := S256x1024) ![0, 0] S256x1024.size inb_S256x1024_S256x1024_0_0).toLoadRect fx = x :=
    (View.readAt_full _ _ _).trans hx
  have hrg : arg2.view.readAt (Elt F) (Rect.unit (s := S4x1024) ![0, 0] S4x1024.size inb_S4x1024_S4x1024_0_0).toLoadRect fg = wg :=
    (View.readAt_full _ _ _).trans hg
  generalize hp1 : k0_part1 (F := F) i arg1 harg1 arg2 harg2 (Memref.whole main_arg3) (Memref.isWhole_whole _) (Memref.whole main_arg5) (Memref.isWhole_whole _) (Memref.whole main_v1) (Memref.isWhole_whole _) (Memref.whole main_arg9) (Memref.isWhole_whole _) (Memref.whole main_arg11) (Memref.isWhole_whole _) (Memref.whole main_arg15) (Memref.isWhole_whole _) (Memref.whole main_arg17) (Memref.isWhole_whole _) (Memref.whole main_arg19) (Memref.isWhole_whole _) arg11 harg11 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 = p1
  generalize hp2 : k0_part2 (F := F) i arg1 harg1 arg2 harg2 (Memref.whole main_arg3) (Memref.isWhole_whole _) (Memref.whole main_arg5) (Memref.isWhole_whole _) (Memref.whole main_v1) (Memref.isWhole_whole _) (Memref.whole main_arg9) (Memref.isWhole_whole _) (Memref.whole main_arg11) (Memref.isWhole_whole _) (Memref.whole main_arg15) (Memref.isWhole_whole _) (Memref.whole main_arg17) (Memref.isWhole_whole _) (Memref.whole main_arg19) (Memref.isWhole_whole _) arg11 harg11 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 = p2
  sl_exec
  rw [wp_bind, wp_bind]
  subst hp1
  iapply (select_run c i arg1 harg1 arg2 harg2 arg11 harg11 (k0_pay12 x wg))
  isplitl [HS5]; · iexact HS5
  iintro ⟨%mt, %hmt, HS5⟩
  subst hmt
  subst hp2
  iapply (fetch_run c w i arg1 harg1 arg2 harg2 arg11 harg11 (secondIx x wg) (bestIx x wg) (slot1Ix x wg)
    (Scalar.cmpi .eq (bestIx x wg) 2#32) (slot2Ix x wg) rfl (slot1Ix_range x wg) (slot2Ix_range x wg) W)
  isplitl [HS0]; · iexact HS0
  isplitl [HS1]; · iexact HS1
  isplitl [HS2]; · iexact HS2
  isplitl [HS3]; · iexact HS3
  isplitl [HS4]; · iexact HS4
  isplitl [HC]; · iexact HC
  isplitl [Hw]; · iexact Hw
  isplitl [HW]; · iexact HW
  iintro ⟨⟨%a1, %h0, HS0⟩, ⟨%b1, %h1, HS1⟩, ⟨%a2, %h2, HS2⟩, ⟨%b2, %h3, HS3⟩, ⟨%az, %h4, HS4⟩, HC, Hw, HW⟩
  subst h0 h1 h2 h3
  have hr0 : (Memref.whole cc0_scratch0).view.readAt (Elt F) (Rect.unit (s := S2048x1024) ![0, 0] S2048x1024.size inb_S2048x1024_S2048x1024_0_0).toLoadRect (firstW c w (slot1Ix x wg)) = firstW c w (slot1Ix x wg) :=
    View.readAt_full _ _ _
  have hr1 : (Memref.whole cc0_scratch1).view.readAt (Elt F) (Rect.unit (s := S1024x2048) ![0, 0] S1024x2048.size inb_S1024x2048_S1024x2048_0_0).toLoadRect (secondW c w (slot1Ix x wg)) = secondW c w (slot1Ix x wg) :=
    View.readAt_full _ _ _
  have hr2 : (Memref.whole cc0_scratch2).view.readAt (Elt F) (Rect.unit (s := S2048x1024) ![0, 0] S2048x1024.size inb_S2048x1024_S2048x1024_0_0).toLoadRect (firstW c w (slot2Ix x wg)) = firstW c w (slot2Ix x wg) :=
    View.readAt_full _ _ _
  have hr3 : (Memref.whole cc0_scratch3).view.readAt (Elt F) (Rect.unit (s := S1024x2048) ![0, 0] S1024x2048.size inb_S1024x2048_S1024x2048_0_0).toLoadRect (secondW c w (slot2Ix x wg)) = secondW c w (slot2Ix x wg) :=
    View.readAt_full _ _ _
  have hr4 : (Memref.whole cc0_scratch4).view.readAt (Elt F) (Rect.unit (s := S2048x1024) ![0, 0] S2048x1024.size inb_S2048x1024_S2048x1024_0_0).toLoadRect az = az :=
    View.readAt_full _ _ _
  have hm0 : (Memref.whole cc0_scratch5).view.readAt (Elt F) (Rect.unit (s := S2) ![0] S1.size inb_S2_S1_0).toLoadRect (words (bestIx x wg) (secondIx x wg)) = fun _ => word0 (words (F := F) (bestIx x wg) (secondIx x wg)) := by
    funext y; exact congrArg (words (F := F) (bestIx x wg) (secondIx x wg)) (funext fun a => Fin.ext (by
      fin_cases a; show 0 + 1 * (y 0).val = 0; have : (y 0).val < 1 := (y 0).isLt; omega))
  have hm1 : (Memref.whole cc0_scratch5).view.readAt (Elt F) (Rect.unit (s := S2) ![1] S1.size inb_S2_S1_1).toLoadRect (words (bestIx x wg) (secondIx x wg)) = fun _ => word1 (words (F := F) (bestIx x wg) (secondIx x wg)) := by
    funext y; exact congrArg (words (F := F) (bestIx x wg) (secondIx x wg)) (funext fun a => Fin.ext (by
      fin_cases a; show 1 + 1 * (y 0).val = 1; have : (y 0).val < 1 := (y 0).isLt; omega))
  sl_exec
  by_cases hb : first_run.sl.v50 x wg = 1#1
  all_goals
    sl_exec
    sl_step
    iapply Hk
    isplitl [H1]; · iexists fx; isplitr; (· ipureintro; exact hx); iexact H1
    isplitl [H2]; · iexists fg; isplitr; (· ipureintro; exact hg); iexact H2
    isplitl [Ho]
    · iexists _; isplitr; swap; (· iexact Ho); ipureintro
      refine (View.read_writes_full _ _ _ _ _).trans ?_
      refine Eq.trans ?_ (stepOut_congr (az := az) fun h => h4 (usesCell_words _ _ h))
      unfold stepOut
      first | rw [if_pos (show usesCell (F := F) (words (bestIx x wg) (secondIx x wg)) = 1#1 from hb)] | rw [if_neg (show ¬ usesCell (F := F) (words (bestIx x wg) (secondIx x wg)) = 1#1 from hb)]
      rfl
    isplitl [HS0 HS1 HS2 HS3 HS4 HS5]
    · isplitl [HS0]; · iexact HS0
      isplitl [HS1]; · iexact HS1
      isplitl [HS2]; · iexact HS2
      isplitl [HS3]; · iexact HS3
      isplitl [HS4]; · iexists az; isplitr; (· ipureintro; exact h4); iexact HS4
      iexact HS5
    isplitl [HC]; · iexact HC
    isplitl [Hw]; · iexact Hw
    iexact HW

end Cert.KernelIdeal.Hand

end
-- ==== Proof.Run.lean ====
/-
  The whole run: the pipeline's proof data (the scratch buffers' contents are the loop invariant), the body's obligation at
  each grid point, and the run of the program, which leaves its arguments and its semaphores as they were and the result
  array as the points' blocks written one after another.
-/
module

public import proofs.«01_k».proof.Proof.First

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

theorem hmain' (𝒱₀ : Variants) :
    Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-! ## The proof data -/

/-- The block of rows of point `t`, and the gate's weights. -/
def rows (c : Dev nD) (t : Fin cfg0.N) : Vec F S256x1024 .f32 := iblk m c 0 t
def gate (c : Dev nD) : Vec F S4x1024 .f32 := iblk m c 1 t0_0
theorem gate_eq (c : Dev nD) (t : Fin cfg0.N) : iblk m c 1 t = gate m c := rfl

/-- What point `t` stores. -/
def block (c : Dev nD) (t : Fin cfg0.N) : Vec F S256x1024 .f32 := pointOut c (V m c) (rows m c t0_0) (rows m c t) (gate m c)

/-- The invariant after the first point: the scratch buffers hold the selected experts' weights. -/
def after1 (c : Dev nD) : sProp 𝕄 :=
  iprop(held c (V m c) (rows m c t0_0) (gate m c) ∗ (∃ r, prngReg c r) ∗ cells c ∗ weights c (V m c))
/-- The invariant: before the first point the scratch buffers hold anything. -/
def inv (c : Dev nD) (n : ℕ) : sProp 𝕄 := if n = 0 then Pipeline.ΦD osem spec0 H (V m) c else after1 m c

theorem ΦD_spelt (c : Dev nD) : (Pipeline.ΦD osem spec0 H (V m) c : sProp 𝕄)
    = iprop(iprop((∃ f, pt c cc0_scratch0 f) ∗ (∃ f, pt c cc0_scratch1 f) ∗ (∃ f, pt c cc0_scratch2 f) ∗ (∃ f, pt c cc0_scratch3 f)
      ∗ (∃ f, pt c cc0_scratch4 f) ∗ (∃ f, pt c cc0_scratch5 f)) ∗ (∃ r, prngReg c r) ∗ cells c ∗ weights c (V m c)) := by
  rw [Pipeline.ΦD_eq, scopedRest0_eq, ownSems_eq, weights_eq]

/-- The proof data of the one pipeline. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => block m c t
  Φ t := inv m c t.val
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = block m c t := by dsimp only [dats]

/-- An input's staging buffer holds its block at every point. -/
theorem before_0 (c : Dev nD) (t : Fin cfg0.N) (d) : (dats m 0 c).before 0 t d = iblk m c 0 t :=
  ((dats m 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The first point's coordinate is zero, a later one's is not. -/
theorem coord_val (t : Fin cfg0.N) : (grid0.coords t 0).val = t.val := by revert t; decide

set_option maxHeartbeats 1000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [after_0, after_1, after_2, gate_eq]
  rw [show (dats m 0 c).Φ t.succ = after1 m c from rfl, show (dats m 0 c).Φ t.castSucc = inv m c t.val from rfl]
  simp only [before_0, before_1, gate_eq]
  unfold Dat.owesAt Pipeline.owesWithin
  rw [show (dats m 0 c).owed t.castSucc = 0 from rfl, show (dats m 0 c).owed t.succ = 0 from rfl]
  by_cases h0 : t.val = 0
  · obtain rfl : t = t0_0 := Fin.ext h0
    rw [show inv m c (t0_0 : Fin cfg0.N).val = Pipeline.ΦD osem spec0 H (V m) c from if_pos rfl, ΦD_spelt]
    unfold after1 block
    rw [show iblk m c 0 t0_0 = rows m c t0_0 from rfl]
    iintro ⟨⟨⟨HS0, HS1, HS2, HS3, HS4, HS5⟩, Hg, HC, Hw⟩, ⟨%W, -, HW⟩, ⟨%d0, H0⟩, ⟨%d1, H1⟩, ⟨%d2, H2⟩⟩
    iapply (first_run c (grid0.coords t0_0) ((coord_val t0_0).trans h0) (V m c) _ _ _ _ _ _ (rows m c t0_0) (gate m c) W)
    isplitl [H0]; · iexact H0
    isplitl [H1]; · iexact H1
    isplitl [H2]; · iexists _; iexact H2
    isplitl [HS0]; · iexact HS0
    isplitl [HS1]; · iexact HS1
    isplitl [HS2]; · iexact HS2
    isplitl [HS3]; · iexact HS3
    isplitl [HS4]; · iexact HS4
    isplitl [HS5]; · iexact HS5
    isplitl [HC]; · iexact HC
    isplitl [Hw]; · iexact Hw
    isplitl [HW]; · iexact HW
    iintro ⟨H0, H1, H2, HS, HC, Hw, ⟨%W', HW⟩⟩
    isplitl [HS Hg HC Hw]
    · isplitl [HS]; · iexact HS
      isplitl [Hg]; · iexact Hg
      isplitl [HC]; · iexact HC
      iexact Hw
    isplitl [HW]
    · iexists W'; isplitr; (· ipureintro; exact fun _ _ => Or.inl trivial); iexact HW
    isplitl [H0]; · iexact H0
    isplitl [H1]; · iexact H1
    iexact H2
  · rw [show inv m c t.val = after1 m c from if_neg h0]
    unfold after1 block
    rw [show iblk m c 0 t = rows m c t from rfl]
    iintro ⟨⟨⟨HS0, HS1, HS2, HS3, ⟨%az, %haz, HS4⟩, HS5⟩, Hg, HC, Hw⟩, ⟨%W, -, HW⟩, ⟨%d0, H0⟩, ⟨%d1, H1⟩, ⟨%d2, H2⟩⟩
    iapply (later_run c (grid0.coords t) (by rw [coord_val]; exact h0) _ _ _ _ _ _ (rows m c t) (gate m c) _ _ _ _ az _ W)
    isplitl [H0]; · iexact H0
    isplitl [H1]; · iexact H1
    isplitl [H2]; · iexists _; iexact H2
    isplitl [HS0]; · iexact HS0
    isplitl [HS1]; · iexact HS1
    isplitl [HS2]; · iexact HS2
    isplitl [HS3]; · iexact HS3
    isplitl [HS4]; · iexact HS4
    isplitl [HS5]; · iexact HS5
    rw [stepOut_congr (az := az) fun h => haz (usesCell_words _ _ h)]
    iintro ⟨H0, H1, H2, HS0, HS1, HS2, HS3, HS4, HS5⟩
    isplitl [HS0 HS1 HS2 HS3 HS4 HS5 Hg HC Hw]
    · isplitl [HS0 HS1 HS2 HS3 HS4 HS5]
      · isplitl [HS0]; · iexact HS0
        isplitl [HS1]; · iexact HS1
        isplitl [HS2]; · iexact HS2
        isplitl [HS3]; · iexact HS3
        isplitl [HS4]; · iexists az; isplitr; (· ipureintro; exact haz); iexact HS4
        iexact HS5
      isplitl [Hg]; · iexact Hg
      isplitl [HC]; · iexact HC
      iexact Hw
    isplitl [HW]
    · iexists W; isplitr; (· ipureintro; exact fun _ _ => Or.inl trivial); iexact HW
    isplitl [H0]; · iexact H0
    isplitl [H1]; · iexact H1
    iexact H2

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

theorem hin (c : Dev nD) : (Pipeline.ΦD osem spec0 H (V m) c : sProp 𝕄) ⊢ (dats m 0 c).Φ 0 := .rfl
theorem hout (c : Dev nD) : (dats m 0 c).Φ (Fin.last cfg0.N) ⊢ (Pipeline.ΦD osem spec0 H (V m) c : sProp 𝕄) := by
  rw [show (dats m 0 c).Φ (Fin.last cfg0.N) = after1 m c from rfl, ΦD_spelt]
  unfold after1
  iintro ⟨⟨HS0, HS1, HS2, HS3, ⟨%az, -, HS4⟩, HS5⟩, Hr⟩
  isplitl [HS0 HS1 HS2 HS3 HS4 HS5]
  · isplitl [HS0]; · iexists _; iexact HS0
    isplitl [HS1]; · iexists _; iexact HS1
    isplitl [HS2]; · iexists _; iexact HS2
    isplitl [HS3]; · iexists _; iexact HS3
    isplitl [HS4]; · iexists _; iexact HS4
    iexists _; iexact HS5
  iexact Hr

set_option backward.isDefEq.respectTransparency.types false in
theorem run_main : θ_run defs (onTc (τ := τ) (main (F := F))) (s₀ m ρ)
    (fun r => Pipeline.FramePost cfgs (dats m) 0 (V m) r ∧ r.2.sem = fun _ => 0) :=
  Pipeline.θ_run_frame_dma (Q' := _) cfgs (dats m) (0 : Fin 1) launch0 osem defs₀ Variants.none ownSemFacts H H_sub m ρ main
    (hbody := fun c => (body_obligation m c).loose) (hshare := fun c => (dats m 0 c).share_full fun _ => rfl)
    (howed := fun _ _ => rfl) (V := V m) (hmain := hmain' m Variants.none) (hA := A_eq m)
    (hin := hin m) (hout := hout m)

/-- The result array after every block has been written back. -/
def result (c : Dev nD) : Buf (Elt F) ((c : Thread nD τ).loc main_v2) := (dats m 0 c).arrAt 2 cfg0.N

set_option maxHeartbeats 2000000 in
/-- The run: every argument array and every semaphore ends as it was, the result array holds `result`. -/
theorem run : θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20))
      ∧ r.2.mem ((c.tc : Thread nD τ).loc main_v2) = result m c) ∧ r.2.sem = fun _ => 0) :=
  (θ_run defs _ _).mono (fun _ h => ⟨fun c => ⟨⟨((h.1 c).1 0).trans (((dats m 0 c).arrAt_in 0 rfl _).trans (V_main_arg0 m c)),
      ((h.1 c).1 1).trans (((dats m 0 c).arrAt_in 1 rfl _).trans (V_main_arg1 m c)),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c),
      ((h.1 c).2 main_arg8 (Pipeline.mem_restRefs_of main_arg8 (by decide) (by decide))).trans (V_main_arg8 m c),
      ((h.1 c).2 main_arg9 (Pipeline.mem_restRefs_of main_arg9 (by decide) (by decide))).trans (V_main_arg9 m c),
      ((h.1 c).2 main_arg10 (Pipeline.mem_restRefs_of main_arg10 (by decide) (by decide))).trans (V_main_arg10 m c),
      ((h.1 c).2 main_arg11 (Pipeline.mem_restRefs_of main_arg11 (by decide) (by decide))).trans (V_main_arg11 m c),
      ((h.1 c).2 main_arg12 (Pipeline.mem_restRefs_of main_arg12 (by decide) (by decide))).trans (V_main_arg12 m c),
      ((h.1 c).2 main_arg13 (Pipeline.mem_restRefs_of main_arg13 (by decide) (by decide))).trans (V_main_arg13 m c),
      ((h.1 c).2 main_arg14 (Pipeline.mem_restRefs_of main_arg14 (by decide) (by decide))).trans (V_main_arg14 m c),
      ((h.1 c).2 main_arg15 (Pipeline.mem_restRefs_of main_arg15 (by decide) (by decide))).trans (V_main_arg15 m c),
      ((h.1 c).2 main_arg16 (Pipeline.mem_restRefs_of main_arg16 (by decide) (by decide))).trans (V_main_arg16 m c),
      ((h.1 c).2 main_arg17 (Pipeline.mem_restRefs_of main_arg17 (by decide) (by decide))).trans (V_main_arg17 m c),
      ((h.1 c).2 main_arg18 (Pipeline.mem_restRefs_of main_arg18 (by decide) (by decide))).trans (V_main_arg18 m c),
      ((h.1 c).2 main_arg19 (Pipeline.mem_restRefs_of main_arg19 (by decide) (by decide))).trans (V_main_arg19 m c),
      ((h.1 c).2 main_arg20 (Pipeline.mem_restRefs_of main_arg20 (by decide) (by decide))).trans (V_main_arg20 m c)⟩,
      (h.1 c).1 2⟩, h.2⟩) (run_main m ρ)

end Cert.KernelIdeal.Hand

end
-- ==== Proof.Same.lean ====
/-
  The kernel as printed and its idealized program are the same text: only the namespace differs. So the run proved of the
  second, which is generic in the float values, is the first's at the bit-exact ones.
-/
module

public import proofs.«01_k».proof.Defs
public import proofs.«01_k».proof.Proof.Gen.Kernel
public import proofs.«01_k».proof.Proof.Run

@[expose] public section

set_option maxRecDepth 65536

namespace Cert.KernelIdeal.Hand

open Idealize.ShloMosaic Idealize.ShloMosaic.TcCoe Idealize.SL.Sem

attribute [local instance] Cert.Kernel.Gen.facts Cert.KernelIdeal.Gen.facts

variable {F : FTy → Type} [FloatOps F]

/-- The two programs' bodies are one. -/
theorem bodies_same : (Kernel.defs₀ (F := F)) = KernelIdeal.defs₀ (F := F) := by
  unfold Kernel.defs₀ KernelIdeal.defs₀
  refine congrArg Defs.onTc ?_
  funext l x
  obtain ⟨l, hl⟩ := l
  match l, hl, x with
  | 0, _, (t, s) => rfl

/-- So are their definitions, the pipeline's added. -/
theorem defs_same : (Kernel.defs (F := F)) = KernelIdeal.defs (F := F) :=
  congrArg (Pipeline.defs (KernelIdeal.pcfgs (F := F))) bodies_same

/-- The kernel's frame: it terminates, nothing faulting, its arguments and every semaphore end as they were. -/
theorem kernel_frame : quiescent_Kernel := fun m g _ => by
  rw [defs_same]
  exact (θ_run (KernelIdeal.defs (F := Bits)) _ _).mono (fun _ h => ⟨fun c => (h.1 c).1, h.2⟩) (run (F := Bits) m g)

/-- The idealized kernel's frame. -/
theorem ideal_frame : quiescent_KernelIdeal := fun m g _ =>
  (θ_run (KernelIdeal.defs (F := Ideal)) _ _).mono (fun _ h => ⟨fun c => (h.1 c).1, h.2⟩) (run (F := Ideal) m g)

end Cert.KernelIdeal.Hand

end
-- ==== Proof.Choice.lean ====
/-
  The choice of two experts out of four, on one row of gate values: the stable descending order, its first two
  positions, and the two largest values as a network of maxima and minima.
-/
module

public import Idealize.ShloMosaic.Lib.SortFacts
public import Idealize.ShloMosaic.PureOps
public import Mathlib.Tactic.Order

@[expose] public section

noncomputable section

namespace Cert.Gate

open Idealize.ShloMosaic

variable {α : Type} [LinearOrder α]

/-- Position `k` comes strictly before `k'` in descending order. -/
def ahead (l : Fin 4 → α) (k k' : Fin 4) : Bool := decide (l k' < l k)

/-- The expert in place `k` of the stable descending order. -/
def place (l : Fin 4 → α) (k : Fin 4) : Fin 4 := sortedFrom (ahead l) k

/-- The six comparisons decide the whole order. -/
theorem sorted_eq (l : Fin 4 → α) : sortPositions 4 (ahead l)
    = insertBefore (ahead l) 0 (insertBefore (ahead l) 1 (insertBefore (ahead l) 2 [3])) := rfl

theorem place_eq (l : Fin 4 → α) (k : Fin 4) : (insertBefore (ahead l) 0 (insertBefore (ahead l) 1 (insertBefore (ahead l) 2 [3])))[k.val]? = some (place l k) := by
  rw [← sorted_eq]
  unfold place sortedFrom
  simp

/-- The largest of the four values, and the second largest. -/
def top1 (l : Fin 4 → α) : α := max (max (l 0) (l 1)) (max (l 2) (l 3))
def top2 (l : Fin 4 → α) : α :=
  max (min (max (l 0) (l 1)) (max (l 2) (l 3))) (max (min (l 0) (l 1)) (min (l 2) (l 3)))

/-- The scan's first expert: the running best is replaced by a strictly better one. -/
def scan1 (l : Fin 4 → α) : Fin 4 :=
  let a : Fin 4 := if l 0 < l 1 then 1 else 0
  let b : Fin 4 := if l a < l 2 then 2 else a
  if l b < l 3 then 3 else b
/-- The scan's second expert: the best pushed down, or the running second replaced by a strictly better one. -/
def scan2 (l : Fin 4 → α) : Fin 4 :=
  let a : Fin 4 := if l 0 < l 1 then 1 else 0
  let a' : Fin 4 := if l 0 < l 1 then 0 else 1
  let b : Fin 4 := if l a < l 2 then 2 else a
  let b' : Fin 4 := if l a < l 2 then a else if l a' < l 2 then 2 else a'
  if l b < l 3 then b else if l b' < l 3 then 3 else b'

set_option maxHeartbeats 4000000 in
/-- The first two places hold what the scan finds. -/
theorem places (l : Fin 4 → α) : place l 0 = scan1 l ∧ place l 1 = scan2 l := by
  have h0 := place_eq l 0
  have h1 := place_eq l 1
  revert h0 h1
  generalize place l 0 = p0
  generalize place l 1 = p1
  unfold scan1 scan2 ahead
  by_cases h01 : l 0 < l 1 <;> by_cases h02 : l 0 < l 2 <;> by_cases h03 : l 0 < l 3 <;>
    by_cases h12 : l 1 < l 2 <;> by_cases h13 : l 1 < l 3 <;> by_cases h23 : l 2 < l 3 <;>
    first
    | (exfalso; order)
    | (simp [insertBefore, h01, h02, h03, h12, h13, h23]; intro a b; exact ⟨a.symm, b.symm⟩)

/-- One step of the scan, on the best value … -/
theorem step_best (l : Fin 4 → α) (b k : Fin 4) : l (if l b < l k then k else b) = max (l b) (l k) := by
  split_ifs with h
  · exact (max_eq_right h.le).symm
  · exact (max_eq_left (not_lt.mp h)).symm
/-- … and on the second best value. -/
theorem step_second (l : Fin 4 → α) (b b' k : Fin 4) (hb : l b' ≤ l b) :
    l (if l b < l k then b else if l b' < l k then k else b') = max (l b') (min (l b) (l k)) := by
  split_ifs with h h'
  · rw [min_eq_left h.le, max_eq_right hb]
  · rw [min_eq_right (not_lt.mp h), max_eq_right h'.le]
  · rw [min_eq_right (not_lt.mp h), max_eq_left (not_lt.mp h')]

/-- The value in the first place is the largest, … -/
theorem first_value (l : Fin 4 → α) : l (scan1 l) = top1 l := by
  unfold scan1 top1
  dsimp only
  rw [step_best l, step_best l, step_best l, max_assoc]
/-- … and in the second place the second largest. -/
theorem second_value (l : Fin 4 → α) : l (scan2 l) = top2 l := by
  have ha' : l (if l 0 < l 1 then 0 else 1) = min (l 0) (l 1) := by
    split_ifs with h
    · exact (min_eq_left h.le).symm
    · exact (min_eq_right (not_lt.mp h)).symm
  unfold scan2 top2
  dsimp only
  have hle : l (if l 0 < l 1 then 0 else 1) ≤ l (if l 0 < l 1 then 1 else 0) := by rw [ha', step_best l]; exact min_le_max
  rw [step_second l _ _ 3 (by rw [step_second l _ _ 2 hle, step_best l _ 2]; exact max_le (hle.trans (le_max_left _ _)) ((min_le_left _ _).trans (le_max_left _ _))),
    step_second l _ _ 2 hle, ha', step_best l _ 2, step_best l _ 1]
  generalize l 0 = w
  generalize l 1 = x
  generalize l 2 = y
  generalize l 3 = z
  have hm : min w x ≤ max w x := min_le_max
  generalize min w x = u at *
  generalize max w x = v at *
  rcases le_total y z with h | h <;> rcases le_total v y with h1 | h1 <;> rcases le_total v z with h2 | h2 <;>
    rcases le_total u y with h3 | h3 <;> rcases le_total u z with h4 | h4 <;> simp [*] <;> order

end Cert.Gate

end
-- ==== Proof.Weight.lean ====
/-
  The two weights of a row and the recurrent cell's scalar identity, on the extended reals.
-/
module

public import proofs.«01_k».proof.Proof.Choice
public import Idealize.ShloMosaic.Lib.IdealHost

@[expose] public section

noncomputable section

namespace Cert.Gate

open Idealize.ShloMosaic

/-- Every one of the four gate values is a real number. -/
def Real4 (l : Fin 4 → EReal) : Prop := ∀ i, ∃ r : ℝ, l i = (r : EReal)

/-- The softmax's denominator, relative to the largest value. -/
def total (l : Fin 4 → EReal) : EReal :=
  Ideal.exp (l 0 - top1 l) + Ideal.exp (l 1 - top1 l) + Ideal.exp (l 2 - top1 l) + Ideal.exp (l 3 - top1 l)
/-- The softmax of the gate values at expert `i`. -/
def weight (l : Fin 4 → EReal) (i : Fin 4) : EReal := Ideal.div (Ideal.exp (l i - top1 l)) (total l)

theorem exp_coe (r : ℝ) : Ideal.exp (r : EReal) = (Real.exp r : EReal) := rfl

/-- A real number over a nonzero one is the real quotient. -/
theorem div_coe (x y : ℝ) (hy : y ≠ 0) : Ideal.div (x : EReal) (y : EReal) = ((x / y : ℝ) : EReal) := by
  unfold Ideal.div
  rw [if_neg (by exact_mod_cast hy), div_eq_mul_inv, EReal.coe_mul, EReal.coe_inv]

/-- Real gate values have a real largest value and a positive real denominator. -/
theorem real_parts {l : Fin 4 → EReal} (h : Real4 l) :
    ∃ (r : Fin 4 → ℝ) (m z : ℝ), (∀ i, l i = r i) ∧ top1 l = m ∧ total l = z ∧ 0 < z := by
  choose r hr using h
  refine ⟨r, top1 r, Real.exp (r 0 - top1 r) + Real.exp (r 1 - top1 r) + Real.exp (r 2 - top1 r) + Real.exp (r 3 - top1 r), hr, ?_, ?_, by positivity⟩
  · unfold top1; simp only [hr, ← EReal.coe_strictMono.monotone.map_max]
  · have hm : top1 l = ((top1 r : ℝ) : EReal) := by unfold top1; simp only [hr, ← EReal.coe_strictMono.monotone.map_max]
    unfold total
    rw [hm]
    simp only [hr, ← EReal.coe_sub, exp_coe, EReal.coe_add]

/-- The softmax orders the experts as the gate values do. -/
theorem weight_lt {l : Fin 4 → EReal} (h : Real4 l) (i j : Fin 4) : weight l i < weight l j ↔ l i < l j := by
  obtain ⟨r, m, z, hr, hm, hz, hp⟩ := real_parts h
  unfold weight
  rw [hm, hz, hr, hr, ← EReal.coe_sub, ← EReal.coe_sub, exp_coe, exp_coe, div_coe _ _ hp.ne', div_coe _ _ hp.ne',
    EReal.coe_lt_coe_iff, EReal.coe_lt_coe_iff, div_lt_div_iff_of_pos_right hp, Real.exp_lt_exp, sub_lt_sub_iff_right]

/-- So their places in descending order are the same. -/
theorem place_weight {l : Fin 4 → EReal} (h : Real4 l) (k : Fin 4) : place (weight l) k = place l k := by
  unfold place
  rw [show ahead (weight l) = ahead l from funext fun i => funext fun j => decide_eq_decide.mpr (weight_lt h j i)]

/-- The first place's weight, … -/
theorem weight_first {l : Fin 4 → EReal} (h : Real4 l) : weight l (place l 0) = Ideal.div 1 (total l) := by
  obtain ⟨r, m, z, hr, hm, hz, hp⟩ := real_parts h
  unfold weight
  rw [(places l).1, first_value l, hm, ← EReal.coe_sub, sub_self, exp_coe, Real.exp_zero, EReal.coe_one]
/-- … and the second place's. -/
theorem weight_second (l : Fin 4 → EReal) :
    weight l (place l 1) = Ideal.div (Ideal.exp (top2 l - top1 l)) (total l) := by
  unfold weight
  rw [(places l).2, second_value l]

/-- One minus the logistic of the opposite, times the candidate, is the candidate over one plus the exponential: the
    update gate written the two ways, whatever the gate's value. -/
theorem cell_eq (z n : EReal) (hn : ∃ t : ℝ, n = t) :
    (1 - Ideal.div 1 (1 + Ideal.exp (-z))) * n + Ideal.div 1 (1 + Ideal.exp (-z)) * 0 = Ideal.div n (1 + Ideal.exp z) := by
  obtain ⟨t, rfl⟩ := hn
  rw [mul_zero, add_zero]
  induction z with
  | bot =>
    rw [EReal.neg_bot, show Ideal.exp ⊤ = ⊤ from rfl, show Ideal.exp ⊥ = 0 from rfl]
    rw [show (1 : EReal) + ⊤ = ⊤ from EReal.coe_add_top 1, add_zero]
    rw [show Ideal.div 1 ⊤ = 0 from by unfold Ideal.div; simp, sub_zero, one_mul]
    unfold Ideal.div; simp
  | top =>
    rw [EReal.neg_top, show Ideal.exp ⊤ = ⊤ from rfl, show Ideal.exp ⊥ = 0 from rfl, add_zero]
    rw [show (1 : EReal) + ⊤ = ⊤ from EReal.coe_add_top 1]
    rw [show Ideal.div 1 1 = 1 from by unfold Ideal.div; simp]
    rw [show (1 : EReal) - 1 = 0 from by rw [← EReal.coe_one, ← EReal.coe_sub, sub_self, EReal.coe_zero], zero_mul]
    unfold Ideal.div; simp
  | coe z =>
    have h1 : (0 : ℝ) < 1 + Real.exp z := by positivity
    have h2 : (0 : ℝ) < 1 + Real.exp (-z) := by positivity
    rw [← EReal.coe_neg, exp_coe, exp_coe, ← EReal.coe_one, ← EReal.coe_add, ← EReal.coe_add, div_coe _ _ h2.ne',
      div_coe _ _ h1.ne', ← EReal.coe_sub, ← EReal.coe_mul, EReal.coe_eq_coe_iff]
    rw [Real.exp_neg] at h2 ⊢
    have h3 := Real.exp_pos z
    field_simp
    ring

/-- The hyperbolic tangent of anything is a real number. -/
theorem tanh_real (x : EReal) : ∃ t : ℝ, Ideal.tanh x = t := by
  induction x with
  | bot => exact ⟨-1, by rw [EReal.coe_neg, EReal.coe_one]; rfl⟩
  | top => exact ⟨1, by rw [EReal.coe_one]; rfl⟩
  | coe r => exact ⟨Real.tanh r, rfl⟩

/-- A finite sum of products of real numbers is a real number. -/
theorem dot_real {n : ℕ} (x w : Fin n → EReal) (hx : ∀ k, ∃ r : ℝ, x k = r) (hw : ∀ k, ∃ r : ℝ, w k = r) :
    ∃ r : ℝ, ∑ k, x k * w k = (r : EReal) := by
  choose a ha using hx
  choose b hb using hw
  refine ⟨∑ k, a k * b k, ?_⟩
  simp only [ha, hb, ← EReal.coe_mul]
  exact (map_sum (⟨⟨Real.toEReal, EReal.coe_zero⟩, EReal.coe_add⟩ : ℝ →+ EReal) _ _).symm

end Cert.Gate

end
-- ==== Proof.Experts.lean ====
/-
  The mathematics of one row of the result: the gate's values, the four experts, and the two chosen experts'
  outputs weighted and added.
-/
module

public import proofs.«01_k».proof.Proof.Weight
public import Idealize.ShloMosaic.Lib.ValueIdx

@[expose] public section

noncomputable section

namespace Cert.Gate

open Idealize.ShloMosaic Idealize.ShloMosaic.ValueIdx
open scoped BigOperators

/-- A matrix of extended reals. -/
abbrev Mat (a b : ℕ) : Type := FVec Ideal ⟨2, ![a, b]⟩ .f32
/-- A row of a matrix. -/
def row {a b : ℕ} (x : Mat a b) (r : Fin a) : Fin b → EReal := fun k => x (ix2 r k)
/-- A row times the transpose of a matrix. -/
def apply {a b : ℕ} (x : Fin b → EReal) (w : Mat a b) (h : Fin a) : EReal := ∑ k : Fin b, x k * w (ix2 h k)

/-- A two-layer expert: `relu (x·aᵀ)·bᵀ`. -/
def mlp (x : Fin 1024 → EReal) (a : Mat 2048 1024) (b : Mat 1024 2048) : Fin 1024 → EReal :=
  apply (fun h => max (apply x a h) 0) b
/-- The recurrent cell from the zero state: the candidate times the complement of the update gate, then a layer. -/
def cell (x : Fin 1024 → EReal) (z n : Mat 2048 1024) (b : Mat 1024 2048) : Fin 1024 → EReal :=
  apply (fun h => Ideal.div (Ideal.tanh (apply x n h)) (1 + Ideal.exp (apply x z h))) b

/-- The experts' weights. -/
structure Params where
  (a0 : Mat 2048 1024) (b0 : Mat 1024 2048) (a1 : Mat 2048 1024) (b1 : Mat 1024 2048)
  (z2 n2 : Mat 2048 1024) (b2 : Mat 1024 2048) (a3 : Mat 2048 1024) (b3 : Mat 1024 2048)

/-- Expert `e` on the row `x`. -/
def expert (p : Params) (e : Fin 4) (x : Fin 1024 → EReal) : Fin 1024 → EReal :=
  match e with
  | 0 => mlp x p.a0 p.b0
  | 1 => mlp x p.a1 p.b1
  | 2 => cell x p.z2 p.n2 p.b2
  | 3 => mlp x p.a3 p.b3

/-- One element of the result: the row's two largest weights, on the two experts that the FIRST row `x0` chooses. -/
def output (p : Params) (wg : Mat 4 1024) (x0 x : Fin 1024 → EReal) (j : Fin 1024) : EReal :=
  weight (apply x wg) (place (apply x wg) 0) * expert p (place (apply x0 wg) 0) x j
    + weight (apply x wg) (place (apply x wg) 1) * expert p (place (apply x0 wg) 1) x j

/-- The whole result: every row through the experts that row 0 chooses. -/
def mixture (x : Mat 2048 1024) (wg : Mat 4 1024) (p : Params) : Mat 2048 1024 := fun i => output p wg (row x 0) (row x (i 0)) (i 1)

/-- The middle tap of a three-tap filter. -/
def tap (w : FVec Ideal ⟨3, ![2048, 1024, 3]⟩ .f32) : Mat 2048 1024 := fun i => w (ix3 (i 0) (i 1) 1)
/-- 2048 consecutive rows of the recurrent cell's input weights, from row `o`. -/
def band (o : ℕ) (ho : o + 2048 ≤ 6144) (w : Mat 6144 1024) : Mat 2048 1024 :=
  fun i => w (ix2 ⟨o + (i 0).val, by have : (i 0).val < 2048 := (i 0).isLt; omega⟩ (i 1))
/-- The experts' weights out of the argument arrays. -/
def weightsOf (W1a : Mat 2048 1024) (W1b : Mat 1024 2048) (Wc : FVec Ideal ⟨3, ![2048, 1024, 3]⟩ .f32) (Wcf : Mat 1024 2048)
    (Wih : Mat 6144 1024) (Wrf : Mat 1024 2048) (W4a : Mat 2048 1024) (W4b : Mat 1024 2048) : Params :=
  ⟨W1a, W1b, tap Wc, Wcf, band 2048 (by decide) Wih, band 4096 (by decide) Wih, Wrf, W4a, W4b⟩

end Cert.Gate

end
-- ==== Proof.Block.lean ====
/-
  What a grid point stores, element by element: the two chosen experts on a row, weighted and added.
-/
module

public import proofs.«01_k».proof.Proof.First
public import proofs.«01_k».proof.Proof.Experts
public import Idealize.ShloMosaic.Lib.MatmulPlain
public import Idealize.ShloMosaic.Lib.ValueLayout
public import Idealize.ShloMosaic.Lib.KernelVsHost

@[expose] public section

noncomputable section

namespace Cert.KernelIdeal.Hand

open Cert.KernelIdeal Cert.KernelIdeal.Gen Cert.Gate
open Idealize.ShloMosaic Idealize.ShloMosaic.TcCoe Idealize.ShloMosaic.ValueIdx
open scoped BigOperators

/-! ## The products -/

theorem zero_bits : Ideal.ofBits .f32 0x00000000#32 = 0 := Ideal.ofBits_zero_f32

/-- A block of rows times the transpose of a matrix, onto zeros. -/
theorem matmul_row {M K N : ℕ} (x : Mat M K) (w : Mat N K) (r : Fin M) (j : Fin N) :
    FloatOps.matmul (F := Ideal) (DotDims.transposedRhs M K N) none x w (constant ⟨2, ![M, N]⟩ .f32 0x00000000#32) (ix2 r j)
      = apply (row x r) w j := by
  rw [Ideal.matmul_transposedRhs_apply, constant_apply, zero_bits, zero_add]
  rfl

/-- The logits of a row. -/
theorem logits_apply (x : Mat 256 1024) (wg : Mat 4 1024) (r : Fin 256) (e : Fin 4) :
    k0_pay12 (F := Ideal) x wg (ix2 r e) = apply (row x r) wg e := matmul_row x wg r e

/-- A hidden layer, read along a row. -/
theorem hidden_apply (x : Mat 256 1024) (a : Mat 2048 1024) (r : Fin 256) (h : Fin 2048) :
    maximumf (F := Ideal) (matmul dot_S256x1024_S2048x1024_S256x2048_1_1_0_0_n_n none x a (constant S256x2048 .f32 0x00000000#32))
        (broadcast S256x2048 (Scalar.ofBits .f32 0x00000000#32)) (ix2 r h) = max (apply (row x r) a h) 0 := by
  rw [maximumf_apply]
  exact congrArg₂ max (matmul_row x a r h) zero_bits

/-- The two-layer expert on a block of rows. -/
theorem mlp_apply (x : Mat 256 1024) (a : Mat 2048 1024) (b : Mat 1024 2048) (r : Fin 256) (j : Fin 1024) :
    k0_pay2 (F := Ideal) x a b (ix2 r j) = mlp (row x r) a b j := by
  refine (matmul_row (M := 256) (K := 2048) (N := 1024) _ b r j).trans ?_
  exact congrArg (fun f => apply f b j) (funext fun h => hidden_apply x a r h)

/-- The recurrent cell on a block of rows. -/
theorem cell_apply (x : Mat 256 1024) (z n : Mat 2048 1024) (b : Mat 1024 2048) (r : Fin 256) (j : Fin 1024) :
    k0_pay1 (F := Ideal) x z n b (ix2 r j) = cell (row x r) z n b j := by
  refine (matmul_row (M := 256) (K := 2048) (N := 1024) _ b r j).trans ?_
  refine congrArg (fun f => apply f b j) (funext fun h => ?_)
  show Ideal.div (Ideal.tanh (FloatOps.matmul (F := Ideal) (DotDims.transposedRhs 256 1024 2048) none x n (constant ⟨2, ![256, 2048]⟩ .f32 0x00000000#32) (ix2 r h)))
    (Ideal.ofBits .f32 0x3F800000#32 + Ideal.exp (FloatOps.matmul (F := Ideal) (DotDims.transposedRhs 256 1024 2048) none x z (constant ⟨2, ![256, 2048]⟩ .f32 0x00000000#32) (ix2 r h))) = _
  rw [matmul_row, matmul_row, Ideal.ofBits_one_f32]

/-! ## The weights -/

theorem col (x : Mat 256 1024) (wg : Mat 4 1024) (r : Fin 256) :
    k0_pay13 (F := Ideal) x wg (ix2 r 0) = apply (row x r) wg 0 ∧ k0_pay14 (F := Ideal) x wg (ix2 r 0) = apply (row x r) wg 1
      ∧ k0_pay15 (F := Ideal) x wg (ix2 r 0) = apply (row x r) wg 2 ∧ k0_pay16 (F := Ideal) x wg (ix2 r 0) = apply (row x r) wg 3 := by
  refine ⟨?_, ?_, ?_, ?_⟩
  · exact (slice2_axis1_apply (n0 := 256) 0 (k0_pay12 (F := Ideal) x wg) slices_S256x4_o0_0_S256x1 r 0 0 rfl).trans (logits_apply x wg r 0)
  · exact (slice2_axis1_apply (n0 := 256) 1 (k0_pay12 (F := Ideal) x wg) slices_S256x4_o0_1_S256x1 r 0 1 rfl).trans (logits_apply x wg r 1)
  · exact (slice2_axis1_apply (n0 := 256) 2 (k0_pay12 (F := Ideal) x wg) slices_S256x4_o0_2_S256x1 r 0 2 rfl).trans (logits_apply x wg r 2)
  · exact (slice2_axis1_apply (n0 := 256) 3 (k0_pay12 (F := Ideal) x wg) slices_S256x4_o0_3_S256x1 r 0 3 rfl).trans (logits_apply x wg r 3)

theorem largest_apply (x : Mat 256 1024) (wg : Mat 4 1024) (r : Fin 256) :
    k0_pay19 (F := Ideal) x wg (ix2 r 0) = top1 (apply (row x r) wg) := by
  obtain ⟨h0, h1, h2, h3⟩ := col x wg r
  show max (max (k0_pay13 (F := Ideal) x wg (ix2 r 0)) (k0_pay14 (F := Ideal) x wg (ix2 r 0)))
    (max (k0_pay15 (F := Ideal) x wg (ix2 r 0)) (k0_pay16 (F := Ideal) x wg (ix2 r 0))) = _
  rw [h0, h1, h2, h3]; rfl

theorem total_apply (x : Mat 256 1024) (wg : Mat 4 1024) (r : Fin 256) :
    k0_pay20 (F := Ideal) x wg (ix2 r 0) = total (apply (row x r) wg) := by
  obtain ⟨h0, h1, h2, h3⟩ := col x wg r
  show Ideal.exp (k0_pay13 (F := Ideal) x wg (ix2 r 0) - k0_pay19 (F := Ideal) x wg (ix2 r 0))
    + Ideal.exp (k0_pay14 (F := Ideal) x wg (ix2 r 0) - k0_pay19 (F := Ideal) x wg (ix2 r 0))
    + Ideal.exp (k0_pay15 (F := Ideal) x wg (ix2 r 0) - k0_pay19 (F := Ideal) x wg (ix2 r 0))
    + Ideal.exp (k0_pay16 (F := Ideal) x wg (ix2 r 0) - k0_pay19 (F := Ideal) x wg (ix2 r 0)) = _
  rw [h0, h1, h2, h3, largest_apply]; rfl

/-- The larger weight of a row, … -/
theorem weight1_apply (x : Mat 256 1024) (wg : Mat 4 1024) (r : Fin 256) (h : Real4 (apply (row x r) wg)) :
    k0_pay21 (F := Ideal) x wg (ix2 r 0) = weight (apply (row x r) wg) (place (apply (row x r) wg) 0) := by
  show Ideal.div (Ideal.ofBits .f32 0x3F800000#32) (k0_pay20 (F := Ideal) x wg (ix2 r 0)) = _
  rw [Ideal.ofBits_one_f32, total_apply, weight_first h]
/-- … and the second largest. -/
theorem weight2_apply (x : Mat 256 1024) (wg : Mat 4 1024) (r : Fin 256) :
    k0_pay22 (F := Ideal) x wg (ix2 r 0) = weight (apply (row x r) wg) (place (apply (row x r) wg) 1) := by
  obtain ⟨h0, h1, h2, h3⟩ := col x wg r
  show Ideal.div (Ideal.exp (max
      (min (max (k0_pay13 (F := Ideal) x wg (ix2 r 0)) (k0_pay14 (F := Ideal) x wg (ix2 r 0)))
        (max (k0_pay15 (F := Ideal) x wg (ix2 r 0)) (k0_pay16 (F := Ideal) x wg (ix2 r 0))))
      (max (min (k0_pay13 (F := Ideal) x wg (ix2 r 0)) (k0_pay14 (F := Ideal) x wg (ix2 r 0)))
        (min (k0_pay15 (F := Ideal) x wg (ix2 r 0)) (k0_pay16 (F := Ideal) x wg (ix2 r 0))))
      - k0_pay19 (F := Ideal) x wg (ix2 r 0))) (k0_pay20 (F := Ideal) x wg (ix2 r 0)) = _
  rw [h0, h1, h2, h3, largest_apply, total_apply, weight_second]; rfl

/-! ## The selection -/

/-- The gate values the scan reads: the first row's. -/
def firstRow (l : Mat 256 4) : Fin 4 → EReal := row l 0

theorem read_gate (l : Mat 256 4) : k0_pay4 (F := Ideal) l = firstRow l 0 ∧ k0_pay5 (F := Ideal) l = firstRow l 1
    ∧ k0_pay6 (F := Ideal) l = firstRow l 2 ∧ k0_pay7 (F := Ideal) l = firstRow l 3 := by
  refine ⟨congrArg l ?_, congrArg l ?_, congrArg l ?_, congrArg l ?_⟩ <;>
    (funext a; match a with | ⟨0, _⟩ => rfl | ⟨1, _⟩ => rfl)

theorem gt_bit (x y : EReal) : Scalar.cmpf (F := Ideal) (φ := .f32) .ogt x y = BitVec.ofBool (decide (y < x)) := rfl

theorem pick {α : Type} (x y : EReal) (u v : α) :
    Scalar.select (Scalar.cmpf (F := Ideal) (φ := .f32) .ogt x y) u v = if y < x then u else v := by
  rw [gt_bit]
  by_cases h : y < x
  · rw [decide_eq_true h, if_pos h]; exact select_one u v
  · rw [decide_eq_false h, if_neg h]; exact select_zero u v

/-- The scan's first word is the first place's expert; -/
theorem best_eq (l : Mat 256 4) : best (F := Ideal) l = BitVec.ofNat 32 (place (firstRow l) 0).val := by
  obtain ⟨h0, h1, h2, h3⟩ := read_gate l
  rw [(places _).1]
  unfold best bestOf beats1 beats2 beats3 k0_pay11 k0_pay9 scan1
  dsimp only
  rw [h0, h1, h2, h3]
  simp only [pick]
  generalize firstRow l = g
  by_cases a : g 0 < g 1 <;> simp only [a, if_true, if_false]
  · by_cases b : g 1 < g 2 <;> simp only [b, if_true, if_false]
    · by_cases d : g 2 < g 3 <;> simp only [d, if_true, if_false] <;> rfl
    · by_cases d : g 1 < g 3 <;> simp only [d, if_true, if_false] <;> rfl
  · by_cases b : g 0 < g 2 <;> simp only [b, if_true, if_false]
    · by_cases d : g 2 < g 3 <;> simp only [d, if_true, if_false] <;> rfl
    · by_cases d : g 0 < g 3 <;> simp only [d, if_true, if_false] <;> rfl

theorem low_bits : Scalar.ofBits (F := Ideal) .f32 0xFF800000#32 = (⊥ : EReal) := by
  show Ideal.ofBits .f32 0xFF800000#32 = ⊥
  simp [Ideal.ofBits, Ideal.ieee]

theorem pick_unless {α : Type} (x y u v : EReal) (p q : α) :
    Scalar.select (Scalar.andi (Scalar.cmpf (F := Ideal) (φ := .f32) .ogt x y) (Scalar.xori (Scalar.cmpf (F := Ideal) (φ := .f32) .ogt u v) 1#1)) p q
      = if v < u then q else if y < x then p else q := by
  rw [gt_bit, gt_bit]
  by_cases h : v < u <;> by_cases h' : y < x <;> simp only [h, h', decide_true, decide_false, if_true, if_false] <;> rfl

/-- and its second word the second place's, where the gate's second value is not the least element. -/
theorem second_eq (l : Mat 256 4) (hl : ⊥ < firstRow l 1) :
    second (F := Ideal) l = BitVec.ofNat 32 (place (firstRow l) 1).val := by
  obtain ⟨h0, h1, h2, h3⟩ := read_gate l
  rw [(places _).2]
  unfold second secondOf next1 next2 next3 beats1 beats2 beats3 k0_pay11 k0_pay10 k0_pay9 k0_pay8 scan2
  dsimp only
  rw [h0, h1, h2, h3, low_bits]
  simp only [pick, pick_unless]
  revert hl
  generalize firstRow l = g
  intro hl
  by_cases a : g 0 < g 1 <;> simp only [a, hl, if_true, if_false]
  · by_cases b : g 1 < g 2 <;> simp only [b, if_true, if_false]
    · by_cases d : g 2 < g 3 <;> by_cases d' : g 1 < g 3 <;> simp only [d, d', if_true, if_false] <;> rfl
    · by_cases b' : g 0 < g 2 <;> by_cases d : g 1 < g 3 <;> by_cases d' : g 2 < g 3 <;> by_cases d'' : g 0 < g 3 <;>
        simp only [b', d, d', d'', if_true, if_false] <;> rfl
  · by_cases b : g 0 < g 2 <;> simp only [b, if_true, if_false]
    · by_cases d : g 2 < g 3 <;> by_cases d' : g 0 < g 3 <;> simp only [d, d', if_true, if_false] <;> rfl
    · by_cases b' : g 1 < g 2 <;> by_cases d : g 0 < g 3 <;> by_cases d' : g 2 < g 3 <;> by_cases d'' : g 1 < g 3 <;>
        simp only [b', d, d', d'', if_true, if_false] <;> rfl

/-! ## The chosen experts' weights -/

/-- The experts' weights as the kernel finds them in memory. -/
def params (c : Dev nD) (w : Contents Ideal c) : Params where
  a0 := w main_arg3
  b0 := w main_arg5
  a1 := w main_v1
  b1 := w main_arg9
  z2 := updRows (w main_arg11)
  n2 := candRows (w main_arg11)
  b2 := w main_arg15
  a3 := w main_arg17
  b3 := w main_arg19

theorem fetched_mlp (c : Dev nD) (w : Contents Ideal c) (e : Fin 4) (he : e ≠ 2) (x : Fin 1024 → EReal) :
    mlp x (firstW c w (BitVec.ofNat 32 e.val)) (secondW c w (BitVec.ofNat 32 e.val)) = expert (params c w) e x := by
  match e, he with
  | 0, _ => rfl
  | 1, _ => rfl
  | 3, _ => rfl
  | 2, he => exact absurd rfl he

theorem fetched_cell (c : Dev nD) (w : Contents Ideal c) (x : Fin 1024 → EReal) :
    cell x (updRows (w main_arg11)) (firstW c w 2#32) (secondW c w 2#32) = expert (params c w) 2 x := rfl

/-- A grid point takes the recurrent cell's branch exactly where slot 2 holds it. -/
theorem usesCell_iff (b s : BitVec 32) : usesCell (F := Ideal) (words b s) = 1#1 ↔ slot2 b s = 2#32 := by
  refine ⟨usesCell_words b s, fun h => ?_⟩
  change Scalar.cmpi .ne (Scalar.extui (Scalar.cmpi .eq (slot2 b s) 2#32) : BitVec 32) 0#32 = 1#1
  rw [h]; rfl

/-! ## A point's block -/

/-- A stored element before the selection is known. -/
theorem stepOut_apply (x : Mat 256 1024) (wg : Mat 4 1024) (a1 : Mat 2048 1024) (b1 : Mat 1024 2048) (a2 : Mat 2048 1024)
    (b2 : Mat 1024 2048) (az : Mat 2048 1024) (mt : Vec Ideal S2 .i32) (r : Fin 256) (j : Fin 1024) :
    stepOut (F := Ideal) x wg a1 b1 a2 b2 az mt (ix2 r j)
      = k0_pay23 (F := Ideal) x wg (word0 mt) (ix2 r 0) * mlp (row x r) a1 b1 j
        + k0_pay24 (F := Ideal) x wg (word0 mt) (ix2 r 0)
          * (if usesCell mt = 1#1 then cell (row x r) az a2 b2 j else mlp (row x r) a2 b2 j) := by
  have hb : ∀ v : FVec Ideal S256x1 .f32, broadcastTo S256x1024 v broadcasts_S256x1_S256x1024 (ix2 r j) = v (ix2 r 0) := fun v =>
    broadcastTo_apply v _ _ _ fun a => match a with | ⟨0, _⟩ => rfl | ⟨1, _⟩ => rfl
  show broadcastTo S256x1024 (k0_pay23 (F := Ideal) x wg (word0 mt)) broadcasts_S256x1_S256x1024 (ix2 r j) * k0_pay2 (F := Ideal) x a1 b1 (ix2 r j)
    + broadcastTo S256x1024 (k0_pay24 (F := Ideal) x wg (word0 mt)) broadcasts_S256x1_S256x1024 (ix2 r j)
      * (if usesCell mt = 1#1 then k0_pay1 (F := Ideal) x az a2 b2 else k0_pay2 (F := Ideal) x a2 b2) (ix2 r j) = _
  rw [hb, hb, mlp_apply]
  split_ifs
  · rw [cell_apply]
  · rw [mlp_apply]

/-- A grid point stores the two chosen experts' outputs, weighted and added. -/
theorem point_apply (c : Dev nD) (w : Contents Ideal c) (x0 x : Mat 256 1024) (wg : Mat 4 1024) (r : Fin 256) (j : Fin 1024)
    (h0 : Real4 (apply (row x0 0) wg)) (h : Real4 (apply (row x r) wg)) :
    pointOut (F := Ideal) c w x0 x wg (ix2 r j) = output (params c w) wg (row x0 0) (row x r) j := by
  have hrow : firstRow (k0_pay12 (F := Ideal) x0 wg) = apply (row x0 0) wg := funext fun e => logits_apply x0 wg 0 e
  have hb : bestIx (F := Ideal) x0 wg = BitVec.ofNat 32 (place (apply (row x0 0) wg) 0).val := by
    rw [← hrow]; exact best_eq _
  have hs : secondIx (F := Ideal) x0 wg = BitVec.ofNat 32 (place (apply (row x0 0) wg) 1).val := by
    rw [← hrow]
    refine second_eq _ ?_
    rw [hrow]
    obtain ⟨q, hq⟩ := h0 1
    rw [hq]; exact EReal.bot_lt_coe q
  have h1 := slot1Ix_range (F := Ideal) x0 wg
  unfold pointOut
  rw [stepOut_apply]
  simp only [usesCell_iff]
  unfold slot1Ix slot2Ix output
  unfold slot1Ix at h1
  rw [hb, hs] at *
  have hw : word0 (F := Ideal) (words (BitVec.ofNat 32 (place (apply (row x0 0) wg) 0).val) (BitVec.ofNat 32 (place (apply (row x0 0) wg) 1).val))
    = BitVec.ofNat 32 (place (apply (row x0 0) wg) 0).val := rfl
  rw [hw]
  generalize place (apply (row x0 0) wg) 0 = b at *
  generalize place (apply (row x0 0) wg) 1 = s at *
  have e23 : ∀ v, k0_pay23 (F := Ideal) x wg v (ix2 r 0) = if v = 2#32 then weight (apply (row x r) wg) (place (apply (row x r) wg) 1) else weight (apply (row x r) wg) (place (apply (row x r) wg) 0) := by
    intro v
    unfold k0_pay23
    by_cases hv : v = 2#32
    · rw [if_pos hv, hv, ← weight2_apply]; rfl
    · rw [if_neg hv, ← weight1_apply x wg r h]
      show (Scalar.select (BitVec.ofBool (v == 2#32)) _ _ : FVec Ideal S256x1 .f32) (ix2 r 0) = _
      rw [beq_false_of_ne hv]; rfl
  have e24 : ∀ v, k0_pay24 (F := Ideal) x wg v (ix2 r 0) = if v = 2#32 then weight (apply (row x r) wg) (place (apply (row x r) wg) 0) else weight (apply (row x r) wg) (place (apply (row x r) wg) 1) := by
    intro v
    unfold k0_pay24
    by_cases hv : v = 2#32
    · rw [if_pos hv, hv, ← weight1_apply x wg r h]; rfl
    · rw [if_neg hv, ← weight2_apply]
      show (Scalar.select (BitVec.ofBool (v == 2#32)) _ _ : FVec Ideal S256x1 .f32) (ix2 r 0) = _
      rw [beq_false_of_ne hv]; rfl
  rw [e23, e24]
  have ofb : ∀ e : Fin 4, BitVec.ofNat 32 e.val = 2#32 ↔ e = 2 := by decide
  have sl : ∀ b s : Fin 4, slot1 (BitVec.ofNat 32 b.val) (BitVec.ofNat 32 s.val) = BitVec.ofNat 32 (if b = 2 then s else b).val
    ∧ slot2 (BitVec.ofNat 32 b.val) (BitVec.ofNat 32 s.val) = BitVec.ofNat 32 (if b = 2 then b else s).val := by decide
  rw [(sl b s).1] at h1
  rw [(sl b s).1, (sl b s).2]
  simp only [ofb]
  by_cases hb2 : b = 2
  · have hs2 : s ≠ 2 := by
      intro hs2
      rw [if_pos hb2, hs2] at h1
      revert h1; decide
    simp only [if_pos hb2]
    rw [hb2, fetched_mlp c w s hs2, add_comm]
    rfl
  · simp only [if_neg hb2]
    rw [fetched_mlp c w b hb2]
    by_cases hs2 : s = 2
    · rw [if_pos hs2, hs2]; rfl
    · rw [if_neg hs2, fetched_mlp c w s hs2]

end Cert.KernelIdeal.Hand

end
-- ==== Proof.Shapes.lean ====
/-
  Reading small rearrangements of an array at an index.
-/
module

public import Idealize.ShloMosaic.Lib.ValueLayout
public import Idealize.ShloMosaic.Lib.ValueIdx

@[expose] public section

noncomputable section

namespace Cert.Gate

open Idealize.ShloMosaic Idealize.ShloMosaic.ValueIdx

variable {α : Type}

/-- One slice of the last axis, with that axis then dropped. -/
theorem lastAxis_apply {a b n : ℕ} (k : ℕ) (X : (⟨3, ![a, b, n]⟩ : Shape).Idx → α)
    (h : (⟨3, ![a, b, n]⟩ : Shape).Slices ![0, 0, k] ⟨3, ![a, b, 1]⟩) (h' : (⟨3, ![a, b, 1]⟩ : Shape).ShapeCasts ⟨2, ![a, b]⟩)
    (i : Fin a) (j : Fin b) (q : Fin n) (hq : q.val = k) :
    shapeCast ⟨2, ![a, b]⟩ (extractStridedSlice ⟨3, ![a, b, 1]⟩ ![0, 0, k] X h) h' (ix2 i j) = X (ix3 i j q) := by
  rw [shapeCast_apply _ h' (ix2 i j) (ix3 i j 0) (by
    rw [Shape.rowMajor_val_three, Shape.rowMajor_val_two]
    show (i.val * b + j.val) * 1 + 0 = i.val * b + j.val
    omega)]
  refine extractStridedSlice_apply _ X h _ _ fun a => ?_
  match a with
  | ⟨0, _⟩ => exact (Nat.zero_add _).symm
  | ⟨1, _⟩ => exact (Nat.zero_add _).symm
  | ⟨2, _⟩ => exact hq

end Cert.Gate

end
-- ==== Proof.Array.lean ====
/-
  What the kernel's result array holds: the blocks of the points put together, in terms of the argument arrays.
-/
module

public import proofs.«01_k».proof.Proof.Block
public import proofs.«01_k».proof.Proof.Run
public import proofs.«01_k».proof.Proof.Shapes

@[expose] public section

noncomputable section

namespace Cert.KernelIdeal.Hand

open Cert.KernelIdeal Cert.KernelIdeal.Gen Cert.Gate
open Idealize.ShloMosaic Idealize.ShloMosaic.TcCoe Idealize.ShloMosaic.ValueIdx
open Idealize.ShloMosaic.Pipeline (Dat)

variable (m : (ℓ : Loc nD τ sig) → Buf (Elt Ideal) ℓ)

/-- The middle tap of the filters, which the host has sliced out before the kernel starts. -/
theorem tap_eq (c : Dev nD) : V m c main_v1 = tap (m ((c : Thread nD τ).loc main_arg7)) := by
  have h : V m c main_v1 = shapeCast S2048x1024 (extractStridedSlice S2048x1024x1 ![0, 0, 1] (m ((c : Thread nD τ).loc main_arg7) : FVec Ideal S2048x1024x3 .f32)
      slices_S2048x1024x3_S2048x1024x1_0_0_1) shapeCasts_S2048x1024x1_S2048x1024 := rfl
  rw [h]
  funext i
  rw [eq_ix2 (n0 := 2048) (n1 := 1024) i]
  exact lastAxis_apply 1 _ _ _ (i 0) (i 1) 1 rfl

theorem cand_eq (W : Mat 6144 1024) : candRows (F := Ideal) W = band 4096 (by decide) W := by
  funext i
  refine congrArg W (funext fun a => Fin.ext ?_)
  match a with
  | ⟨0, _⟩ => show 4096 + 1 * (i 0).val = 4096 + (i 0).val; omega
  | ⟨1, _⟩ => show 0 + 1 * (i 1).val = (i 1).val; omega
theorem upd_eq (W : Mat 6144 1024) : updRows (F := Ideal) W = band 2048 (by decide) W := by
  funext i
  refine congrArg W (funext fun a => Fin.ext ?_)
  match a with
  | ⟨0, _⟩ => show 2048 + 1 * (i 0).val = 2048 + (i 0).val; omega
  | ⟨1, _⟩ => show 0 + 1 * (i 1).val = (i 1).val; omega

/-- The experts' weights the kernel finds are those of its arguments. -/
theorem params_eq (c : Dev nD) : params c (V m c) = weightsOf (m ((c : Thread nD τ).loc main_arg3)) (m ((c : Thread nD τ).loc main_arg5))
    (m ((c : Thread nD τ).loc main_arg7)) (m ((c : Thread nD τ).loc main_arg9)) (m ((c : Thread nD τ).loc main_arg11))
    (m ((c : Thread nD τ).loc main_arg15)) (m ((c : Thread nD τ).loc main_arg17)) (m ((c : Thread nD τ).loc main_arg19)) := by
  unfold params weightsOf
  rw [V_main_arg3, V_main_arg5, tap_eq, V_main_arg9, V_main_arg11, V_main_arg15, V_main_arg17, V_main_arg19, cand_eq, upd_eq]

/-! ## The blocks -/

theorem index_in : ∀ t : Fin cfg0.N, win0_0.index t (0 : Fin 2) = t.val ∧ win0_0.index t (1 : Fin 2) = 0 :=
  (by decide +kernel : ∀ t : Fin grid0.N, _)
theorem index_gate : ∀ t : Fin cfg0.N, win0_1.index t (0 : Fin 2) = 0 ∧ win0_1.index t (1 : Fin 2) = 0 :=
  (by decide +kernel : ∀ t : Fin grid0.N, _)
theorem index_out : ∀ t : Fin cfg0.N, win0_2.index t (0 : Fin 2) = t.val ∧ win0_2.index t (1 : Fin 2) = 0 :=
  (by decide +kernel : ∀ t : Fin grid0.N, _)

/-- Row `i` of block `t`. -/
def rowOf (t : Fin cfg0.N) (i : Fin 256) : Fin 2048 := ⟨256 * t.val + i.val, by have h := t.isLt; have hN : cfg0.N = 8 := N_0; omega⟩

theorem emb_in (t : Fin cfg0.N) (j : S256x1024.Idx) : ((cfg0.win 0).blk t).view.emb j = ix2 (rowOf t (j 0)) (j 1) := by
  obtain ⟨e0, e1⟩ := index_in t
  funext a; apply Fin.ext
  match a with
  | ⟨0, _⟩ => show win0_0.index t (0 : Fin 2) * 256 + 1 * (j 0).val = 256 * t.val + (j 0).val; omega
  | ⟨1, _⟩ => show win0_0.index t (1 : Fin 2) * 1024 + 1 * (j 1).val = (j 1).val; omega
theorem emb_gate (t : Fin cfg0.N) (j : S4x1024.Idx) : ((cfg0.win 1).blk t).view.emb j = j := by
  obtain ⟨e0, e1⟩ := index_gate t
  funext a; apply Fin.ext
  match a with
  | ⟨0, _⟩ => show win0_1.index t (0 : Fin 2) * 4 + 1 * (j 0).val = (j 0).val; omega
  | ⟨1, _⟩ => show win0_1.index t (1 : Fin 2) * 1024 + 1 * (j 1).val = (j 1).val; omega
theorem emb_out (t : Fin cfg0.N) (j : S256x1024.Idx) : ((cfg0.win 2).blk t).view.emb j = ix2 (rowOf t (j 0)) (j 1) := by
  obtain ⟨e0, e1⟩ := index_out t
  funext a; apply Fin.ext
  match a with
  | ⟨0, _⟩ => show win0_2.index t (0 : Fin 2) * 256 + 1 * (j 0).val = 256 * t.val + (j 0).val; omega
  | ⟨1, _⟩ => show win0_2.index t (1 : Fin 2) * 1024 + 1 * (j 1).val = (j 1).val; omega

/-- A point's rows are rows of the first argument; -/
theorem rows_row (c : Dev nD) (t : Fin cfg0.N) (i : Fin 256) :
    row (rows m c t) i = row (m ((c : Thread nD τ).loc main_arg0) : Mat 2048 1024) (rowOf t i) := by
  funext k
  show V m c main_arg0 (((cfg0.win 0).blk t).view.emb (ix2 i k)) = _
  rw [emb_in, V_main_arg0]; rfl
/-- the gate's weights are the second argument. -/
theorem gate_arg (c : Dev nD) : gate m c = m ((c : Thread nD τ).loc main_arg1) := by
  funext j
  show V m c main_arg1 (((cfg0.win 1).blk t0_0).view.emb j) = _
  rw [emb_gate, V_main_arg1]

/-- What the kernel's result array is shown to hold. -/
abbrev mixed (c : Dev nD) : Buf (Elt Ideal) ((c : Thread nD τ).loc main_v2) :=
  mixture (m ((c : Thread nD τ).loc main_arg0)) (m ((c : Thread nD τ).loc main_arg1))
    (weightsOf (m ((c : Thread nD τ).loc main_arg3)) (m ((c : Thread nD τ).loc main_arg5))
      (m ((c : Thread nD τ).loc main_arg7)) (m ((c : Thread nD τ).loc main_arg9)) (m ((c : Thread nD τ).loc main_arg11))
      (m ((c : Thread nD τ).loc main_arg15)) (m ((c : Thread nD τ).loc main_arg17)) (m ((c : Thread nD τ).loc main_arg19)))

/-- Every gate value is a real number. -/
abbrev RealGate (x : Mat 2048 1024) (wg : Mat 4 1024) : Prop := ∀ r, Real4 (apply (row x r) wg)

/-- What a point writes back is its block of the mixture. -/
theorem flushed_eq (c : Dev nD) (h : RealGate (m ((c : Thread nD τ).loc main_arg0)) (m ((c : Thread nD τ).loc main_arg1))) (t : Fin cfg0.N) :
    (dats m 0 c).flushed 2 t = ((cfg0.win 2).blk t).view.read (Elt Ideal) (mixed m c) := by
  show (cfg0.win 2).cut (grid0.coords t) ((dats m 0 c).after 2 t) = _
  rw [after_2]
  funext j
  show block m c t j = mixed m c (((cfg0.win 2).blk t).view.emb j)
  rw [emb_out]
  unfold block
  have e0 := rows_row m c t0_0 0
  have e := rows_row m c t (j 0)
  have eg := gate_arg m c
  have key := point_apply c (V m c) (rows m c t0_0) (rows m c t) (gate m c) (j 0) (j 1)
    (by rw [e0, eg]; exact h _) (by rw [e, eg]; exact h _)
  refine (congrArg (pointOut c (V m c) (rows m c t0_0) (rows m c t) (gate m c)) (eq_ix2 (n0 := 256) (n1 := 1024) j)).trans (key.trans ?_)
  rw [e0, e, eg, params_eq]
  rfl

theorem covered (i : S2048x1024.Idx) : ∃ t : Fin cfg0.N, (cfg0.win 2).flush t = true ∧ i ∈ ((cfg0.win 2).blk t).view.set := by
  have h0 : (i 0).val < 2048 := (i 0).isLt
  obtain ⟨t, ht⟩ : ∃ t : Fin cfg0.N, t.val = (i 0).val / 256 := ⟨⟨(i 0).val / 256, by have hN : cfg0.N = 8 := N_0; omega⟩, rfl⟩
  have he := ((cfg0.win 2).blk t).view.emb_mem_set (ix2 ⟨(i 0).val % 256, Nat.mod_lt _ (by decide)⟩ (i 1) : S256x1024.Idx)
  rw [emb_out] at he
  have hi : (ix2 (rowOf t ⟨(i 0).val % 256, Nat.mod_lt _ (by decide)⟩) (i 1) : S2048x1024.Idx) = i := by
    funext a; apply Fin.ext
    match a with
    | ⟨0, _⟩ => show 256 * t.val + (i 0).val % 256 = (i 0).val; omega
    | ⟨1, _⟩ => rfl
  refine ⟨t, flush0_2 _, ?_⟩
  rw [← hi]
  exact he

/-- The kernel's result array ends holding the mixture of its arguments. -/
theorem result_eq (c : Dev nD) (h : RealGate (m ((c : Thread nD τ).loc main_arg0)) (m ((c : Thread nD τ).loc main_arg1))) :
    result m c = mixed m c :=
  (dats m 0 c).arrAt_eq_of_cover 2 (mixed m c) (fun t _ => flushed_eq m c h t) covered

end Cert.KernelIdeal.Hand

end
-- ==== Proof.Reference.lean ====
/-
  The reference program's steps as functions of arrays, and its result as their composition.
-/
module

public import proofs.«01_k».proof.Proof.Gen.ReferenceIdeal.Run
public import proofs.«01_k».proof.Proof.Experts

@[expose] public section

noncomputable section

namespace Cert.ReferenceIdeal.Hand

open Cert.ReferenceIdeal Cert.ReferenceIdeal.Gen Cert.Gate
open Idealize.ShloMosaic Idealize.ShloMosaic.TcCoe Idealize.ShloMosaic.ValueIdx

/-- A vector of extended reals. -/
abbrev Row (a : ℕ) : Type := FVec Ideal ⟨1, ![a]⟩ .f32
/-- A filter bank of three taps. -/
abbrev Taps : Type := FVec Ideal S2048x1024x3 .f32

/-! ## The layers -/

/-- The rows times the transpose of a matrix of 2048 rows. -/
def widen (x : Mat 2048 1024) (w : Mat 2048 1024) : Mat 2048 2048 :=
  Host.dotGeneral (F := Ideal) dot_S2048x1024_S1024x2048_S2048x2048_1_0_0_1_n_n none x
    (transpose S1024x2048 [1, 0] w transposes_S2048x1024_S1024x2048_1_0)
/-- The hidden rows through an output layer. -/
def narrow (h : Mat 2048 2048) (w : Mat 1024 2048) (b : Row 1024) : Mat 2048 1024 :=
  addf (F := Ideal) (φ := .f32) (Host.dotGeneral (F := Ideal) dot_S2048x2048_S2048x1024_S2048x1024_1_0_0_1_n_n none h
      (transpose S2048x1024 [1, 0] w transposes_S1024x2048_S2048x1024_1_0))
    (broadcastInDim S2048x1024 ![0, 1] bcast_S1x1024_S2048x1024_0_1 (broadcastInDim S1x1024 ![1] bcast_S1024_S1x1024_1 b))
/-- A number at every place of a 2048 by 2048 array. -/
def full (w : BitVec 32) : Mat 2048 2048 := broadcastInDim S2048x2048 ![] bcast_S_S2048x2048 (constant (F := Ideal) S_ .f32 w)

/-- The two-layer expert. -/
def dense (x : Mat 2048 1024) (a : Mat 2048 1024) (ba : Row 2048) (b : Mat 1024 2048) (bb : Row 1024) : Mat 2048 1024 :=
  narrow (maximumf (F := Ideal) (φ := .f32) (addf (F := Ideal) (φ := .f32) (widen x a)
      (broadcastInDim S2048x2048 ![0, 1] bcast_S1x2048_S2048x2048_0_1 (broadcastInDim S1x2048 ![1] bcast_S2048_S1x2048_1 ba)))
    (full 0x00000000#32)) b bb

/-- The rows as signals of length one, padded by one zero on each side. -/
def padded (x : Mat 2048 1024) : Taps :=
  pad S2048x1024x3 ![0, 0, 1] ![0, 0, 1] ![0, 0, 0] (broadcastInDim S2048x1024x1 ![0, 1] bcast_S2048x1024_S2048x1024x1_0_1 x)
    (sitofp (F := Ideal) .f32 (constantI S_ 32 0#32)) pads_S2048x1024x1_S2048x1024x3_000_000_110 h_S_
/-- One position of a padded signal, or one tap of a filter. -/
def at0 (v : Taps) : Mat 2048 1024 := shapeCast S2048x1024 (extractStridedSlice S2048x1024x1 ![0, 0, 0] v slices_S2048x1024x3_S2048x1024x1_0_0_0) shapeCasts_S2048x1024x1_S2048x1024
def at1 (v : Taps) : Mat 2048 1024 := shapeCast S2048x1024 (extractStridedSlice S2048x1024x1 ![0, 0, 1] v slices_S2048x1024x3_S2048x1024x1_0_0_1) shapeCasts_S2048x1024x1_S2048x1024
def at2 (v : Taps) : Mat 2048 1024 := shapeCast S2048x1024 (extractStridedSlice S2048x1024x1 ![0, 0, 2] v slices_S2048x1024x3_S2048x1024x1_0_0_2) shapeCasts_S2048x1024x1_S2048x1024

/-- The convolution, tap by tap. -/
def convolved (x : Mat 2048 1024) (w : Taps) : Mat 2048 2048 :=
  addf (F := Ideal) (φ := .f32) (addf (F := Ideal) (φ := .f32) (widen (at0 (padded x)) (at0 w)) (widen (at1 (padded x)) (at1 w)))
    (widen (at2 (padded x)) (at2 w))
/-- The convolutional expert's hidden layer: bias, rectifier, mean over the one position. -/
def pooled (x : Mat 2048 1024) (w : Taps) (b : Row 2048) : Mat 2048 2048 :=
  Host.divf (F := Ideal) (φ := .f32) (Host.reduceAdd (F := Ideal) (φ := .f32) (maximumf (F := Ideal) (φ := .f32)
      (addf (F := Ideal) (φ := .f32) (broadcastInDim S2048x2048x1 ![0, 1] bcast_S2048x2048_S2048x2048x1_0_1 (convolved x w))
        (broadcastInDim S2048x2048x1 ![0, 1, 2] bcast_S1x2048x1_S2048x2048x1_0_1_2 (broadcastInDim S1x2048x1 ![1] bcast_S2048_S1x2048x1_1 b)))
      (broadcastInDim S2048x2048x1 ![] bcast_S_S2048x2048x1 (constant (F := Ideal) S_ .f32 0x00000000#32)))
    (constant (F := Ideal) S_ .f32 0x00000000#32) reducesTo_S2048x2048x1_S2048x2048_d2 h_S_) (full 0x3F800000#32)

/-! ## The recurrent cell -/

/-- The input's part of the gates, and the state's. -/
def gatesIn (x : Mat 2048 1024) (w : Mat 6144 1024) (b : Row 6144) : Mat 2048 6144 :=
  addf (F := Ideal) (φ := .f32) (Host.dotGeneral (F := Ideal) dot_S2048x1024_S1024x6144_S2048x6144_1_0_0_1_n_n none x
      (transpose S1024x6144 [1, 0] w transposes_S6144x1024_S1024x6144_1_0))
    (broadcastInDim S2048x6144 ![0, 1] bcast_S1x6144_S2048x6144_0_1 (broadcastInDim S1x6144 ![1] bcast_S6144_S1x6144_1 b))
def gatesState (h : Mat 2048 2048) (w : Mat 6144 2048) (b : Row 6144) : Mat 2048 6144 :=
  addf (F := Ideal) (φ := .f32) (Host.dotGeneral (F := Ideal) dot_S2048x2048_S2048x6144_S2048x6144_1_0_0_1_n_n none h
      (transpose S2048x6144 [1, 0] w transposes_S6144x2048_S2048x6144_1_0))
    (broadcastInDim S2048x6144 ![0, 1] bcast_S1x6144_S2048x6144_0_1 (broadcastInDim S1x6144 ![1] bcast_S6144_S1x6144_1 b))
/-- The three bands of the gates. -/
def band0 (g : Mat 2048 6144) : Mat 2048 2048 := extractStridedSlice S2048x2048 ![0, 0] g slices_S2048x6144_S2048x2048_0_0
def band1 (g : Mat 2048 6144) : Mat 2048 2048 := extractStridedSlice S2048x2048 ![0, 2048] g slices_S2048x6144_S2048x2048_0_2048
def band2 (g : Mat 2048 6144) : Mat 2048 2048 := extractStridedSlice S2048x2048 ![0, 4096] g slices_S2048x6144_S2048x2048_0_4096
/-- The logistic function. -/
def logistic (v : Mat 2048 2048) : Mat 2048 2048 :=
  Host.divf (F := Ideal) (φ := .f32) (full 0x3F800000#32)
    (addf (F := Ideal) (φ := .f32) (full 0x3F800000#32) (Host.exp (F := Ideal) (φ := .f32) (Host.negf (F := Ideal) (φ := .f32) v)))
/-- One step of the cell. -/
def step (gi gh : Mat 2048 6144) (h : Mat 2048 2048) : Mat 2048 2048 :=
  addf (F := Ideal) (φ := .f32)
    (mulf (F := Ideal) (φ := .f32) (subf (F := Ideal) (φ := .f32) (full 0x3F800000#32) (logistic (addf (F := Ideal) (φ := .f32) (band1 gi) (band1 gh))))
      (Host.tanh (F := Ideal) (φ := .f32) (addf (F := Ideal) (φ := .f32) (band2 gi)
        (mulf (F := Ideal) (φ := .f32) (logistic (addf (F := Ideal) (φ := .f32) (band0 gi) (band0 gh))) (band2 gh)))))
    (mulf (F := Ideal) (φ := .f32) (logistic (addf (F := Ideal) (φ := .f32) (band1 gi) (band1 gh))) h)

/-! ## The gate -/

/-- The gate's values. -/
def logits (x : Mat 2048 1024) (w : Mat 4 1024) (b : Row 4) : Mat 2048 4 :=
  addf (F := Ideal) (φ := .f32) (Host.dotGeneral (F := Ideal) dot_S2048x1024_S1024x4_S2048x4_1_0_0_1_n_n none x
      (transpose S1024x4 [1, 0] w transposes_S4x1024_S1024x4_1_0))
    (broadcastInDim S2048x4 ![0, 1] bcast_S1x4_S2048x4_0_1 (broadcastInDim S1x4 ![1] bcast_S4_S1x4_1 b))
/-- A number per row, repeated along the row. -/
def along (v : Row 2048) : Mat 2048 4 :=
  broadcastInDim S2048x4 ![0, 1] bcast_S2048x1_S2048x4_0_1 (broadcastInDim S2048x1 ![0] bcast_S2048_S2048x1_0 v)
/-- The exponentials of the gate's values above the row's largest, and their quotients by the row's sum. -/
def exps (l : Mat 2048 4) : Mat 2048 4 :=
  Host.exp (F := Ideal) (φ := .f32) (subf (F := Ideal) (φ := .f32) l (along (maximumf (F := Ideal) (φ := .f32)
    (broadcastInDim S2048 ![] bcast_S_S2048 (constant (F := Ideal) S_ .f32 0xFF800000#32))
    (Host.reduce (FloatOps.maximumf (F := Ideal) (φ := .f32)) l (constant (F := Ideal) S_ .f32 0xFF800000#32) reducesTo_S2048x4_S2048_d1 h_S_))))
def quotients (e : Mat 2048 4) : Mat 2048 4 :=
  Host.divf (F := Ideal) (φ := .f32) e (along (Host.reduceAdd (F := Ideal) (φ := .f32) e (constant (F := Ideal) S_ .f32 0x00000000#32) reducesTo_S2048x4_S2048_d1 h_S_))
/-- The two largest probabilities of each row, and their experts. -/
def largest (p : Mat 2048 4) : Mat 2048 2 := (Host.topK S2048x2 1 (FloatOps.cmpfTotal (F := Ideal) (φ := .f32) .gt) p sliceFits_S2048x4_S2048x2).1
def experts (p : Mat 2048 4) : IVec S2048x2 32 := (Host.topK S2048x2 1 (FloatOps.cmpfTotal (F := Ideal) (φ := .f32) .gt) p sliceFits_S2048x4_S2048x2).2
/-- The first row's two experts. -/
def chosen (e : IVec S2048x2 32) : IVec S2 32 := shapeCast S2 (extractStridedSlice S1x2 ![0, 0] e slices_S2048x2_S1x2_0_0) shapeCasts_S1x2_S2

/-! ## Taking the two experts and mixing -/

/-- The experts' outputs side by side. -/
def stacked (e0 e1 e2 e3 : Mat 2048 1024) : FVec Ideal S2048x4x1024 .f32 :=
  Value.fn_main_v123 (F := Ideal) (broadcastInDim S2048x1x1024 ![0, 2] bcast_S2048x1024_S2048x1x1024_0_2 e0)
    (broadcastInDim S2048x1x1024 ![0, 2] bcast_S2048x1024_S2048x1x1024_0_2 e1)
    (broadcastInDim S2048x1x1024 ![0, 2] bcast_S2048x1024_S2048x1x1024_0_2 e2)
    (broadcastInDim S2048x1x1024 ![0, 2] bcast_S2048x1024_S2048x1x1024_0_2 e3)
/-- A negative index counts from the end. -/
def wrapped (i : IVec S2 32) : IVec S2x1 32 :=
  broadcastInDim S2x1 ![0] bcast_S2_S2x1_0 (select (cmpi .slt i (broadcastInDim S2 ![] bcast_S_S2 (constantI S_ 32 0#32)))
    (addi i (broadcastInDim S2 ![] bcast_S_S2 (constantI S_ 32 4#32))) i)
/-- Which indices are in range. -/
def inRange (i : IVec S2x1 32) : IVec S2 1 :=
  Host.reduce IntOp.andi (andi (cmpi .sge i (broadcastInDim S2x1 ![] bcast_S_S2x1 (constantI S_ 32 0#32)))
    (cmpi .sle i (broadcastInDim S2x1 ![0, 1] bcast_S1x1_S2x1_0_1 (broadcastInDim S1x1 ![1] bcast_S1_S1x1_1 (constantI S1 32 3#32)))))
    (constantI S_ 1 1#1) reducesTo_S2x1_S2_d1 h_S_
/-- Two experts' outputs out of the four. -/
def taken (s : FVec Ideal S2048x4x1024 .f32) (i : IVec S2 32) : FVec Ideal S2048x2x1024 .f32 :=
  select (broadcastInDim S2048x2x1024 ![1] bcast_S2_S2048x2x1024_1 (inRange (wrapped i)))
    (Host.gather gather_S2048x4x1024_S2x1_S2048x2x1024_02_1_n_n_1_1_204811024 s (wrapped i))
    (broadcastInDim S2048x2x1024 ![] bcast_S_S2048x2x1024 (constant (F := Ideal) S_ .f32 0x7FC00000#32))
/-- The two outputs weighted and added. -/
def mixed (w : Mat 2048 2) (s : FVec Ideal S2048x2x1024 .f32) : Mat 2048 1024 :=
  Host.reduceAdd (F := Ideal) (φ := .f32) (mulf (F := Ideal) (φ := .f32)
      (broadcastInDim S2048x2x1024 ![0, 1, 2] bcast_S2048x2x1_S2048x2x1024_0_1_2 (broadcastInDim S2048x2x1 ![0, 1] bcast_S2048x2_S2048x2x1_0_1 w)) s)
    (constant (F := Ideal) S_ .f32 0x00000000#32) reducesTo_S2048x2x1024_S2048x1024_d1 h_S_

variable (m : (ℓ : Loc nD τ sig) → Buf (Elt Ideal) ℓ) (c : Dev nD)

/-- The reference's probabilities. -/
def probs : Mat 2048 4 :=
  quotients (exps (logits (m ((c.tc : Thread nD τ).loc main_arg0)) (m ((c.tc : Thread nD τ).loc main_arg1)) (m ((c.tc : Thread nD τ).loc main_arg2))))
/-- The four experts' outputs. -/
def outputs : FVec Ideal S2048x4x1024 .f32 :=
  stacked
    (dense (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)))
    (narrow (pooled (m ((c.tc : Thread nD τ).loc main_arg0)) (m ((c.tc : Thread nD τ).loc main_arg7)) (m ((c.tc : Thread nD τ).loc main_arg8))) (m ((c.tc : Thread nD τ).loc main_arg9)) (m ((c.tc : Thread nD τ).loc main_arg10)))
    (narrow (step (gatesIn (m ((c.tc : Thread nD τ).loc main_arg0)) (m ((c.tc : Thread nD τ).loc main_arg11)) (m ((c.tc : Thread nD τ).loc main_arg13)))
        (gatesState (full 0x00000000#32) (m ((c.tc : Thread nD τ).loc main_arg12)) (m ((c.tc : Thread nD τ).loc main_arg14))) (full 0x00000000#32))
      (m ((c.tc : Thread nD τ).loc main_arg15)) (m ((c.tc : Thread nD τ).loc main_arg16)))
    (dense (m ((c.tc : Thread nD τ).loc main_arg0)) (m ((c.tc : Thread nD τ).loc main_arg17)) (m ((c.tc : Thread nD τ).loc main_arg18)) (m ((c.tc : Thread nD τ).loc main_arg19)) (m ((c.tc : Thread nD τ).loc main_arg20)))

set_option maxRecDepth 65536 in
set_option maxHeartbeats 4000000 in
/-- The reference's result is the composition of these steps. -/
theorem result_steps : Value.res_main_v128 m c = mixed (largest (probs m c)) (taken (outputs m c) (chosen (experts (probs m c)))) := by
  unfold Value.res_main_v128; rfl

end Cert.ReferenceIdeal.Hand

end
-- ==== Proof.Sums.lean ====
/-
  The reference's four reductions read at an index.
-/
module

public import proofs.«01_k».proof.Proof.Reference
import Idealize.ShloMosaic.Lib.Pointwise.Reduce

@[expose] public section

noncomputable section

namespace Cert.ReferenceIdeal.Hand

open Cert.ReferenceIdeal Cert.ReferenceIdeal.Gen Cert.Gate
open Idealize.ShloMosaic
open scoped BigOperators

/-- The largest of a row's four values, above the initial value. -/
theorem row_max (v : Mat 2048 4) (z : FVec Ideal S_ .f32) (r : Fin 2048) :
    Host.reduce (FloatOps.maximumf (F := Ideal) (φ := .f32)) v z reducesTo_S2048x4_S2048_d1 h_S_ (ValueIdx.ix1 r)
      = Finset.univ.fold max (z (Shape.Idx.first h_S_)) (row v r) := by
  simp only [pointwise]
  rfl

/-- The sum of a row's four values. -/
theorem row_sum (v : Mat 2048 4) (z : FVec Ideal S_ .f32) (r : Fin 2048) :
    Host.reduceAdd (F := Ideal) (φ := .f32) v z reducesTo_S2048x4_S2048_d1 h_S_ (ValueIdx.ix1 r)
      = z (Shape.Idx.first h_S_) + ∑ k : Fin 4, v (ValueIdx.ix2 r k) := by
  simp only [pointwise, Ideal.hostReduceAdd_def]
  rfl

/-- The sum over a last axis of one position. -/
theorem one_sum (v : FVec Ideal S2048x2048x1 .f32) (z : FVec Ideal S_ .f32) (r h : Fin 2048) :
    Host.reduceAdd (F := Ideal) (φ := .f32) v z reducesTo_S2048x2048x1_S2048x2048_d2 h_S_ (ValueIdx.ix2 r h)
      = z (Shape.Idx.first h_S_) + v (ValueIdx.ix3 r h 0) := by
  simp only [pointwise, Ideal.hostReduceAdd_def]
  rw [Fin.sum_univ_one]
  rfl

/-- The sum over a middle axis of two positions. -/
theorem two_sum (v : FVec Ideal S2048x2x1024 .f32) (z : FVec Ideal S_ .f32) (r : Fin 2048) (j : Fin 1024) :
    Host.reduceAdd (F := Ideal) (φ := .f32) v z reducesTo_S2048x2x1024_S2048x1024_d1 h_S_ (ValueIdx.ix2 r j)
      = z (Shape.Idx.first h_S_) + (v (ValueIdx.ix3 r 0 j) + v (ValueIdx.ix3 r 1 j)) := by
  simp only [pointwise, Ideal.hostReduceAdd_def]
  rw [Fin.sum_univ_two]
  rfl

end Cert.ReferenceIdeal.Hand

end
-- ==== Proof.Layers.lean ====
/-
  The reference's four experts read at an index, their biases zero.
-/
module

public import proofs.«01_k».proof.Proof.Sums
public import proofs.«01_k».proof.Proof.Shapes
public import Idealize.ShloMosaic.Lib.StackMember
public import Idealize.ShloMosaic.Lib.KernelVsHost

@[expose] public section

noncomputable section

namespace Cert.ReferenceIdeal.Hand

open Cert.ReferenceIdeal Cert.ReferenceIdeal.Gen Cert.Gate
open Idealize.ShloMosaic Idealize.ShloMosaic.ValueIdx
open scoped BigOperators

/-! ## Constants -/

theorem full_zero (r h : Fin 2048) : full 0x00000000#32 (ix2 r h) = (0 : EReal) := Ideal.ofBits_zero_f32
theorem full_one (r h : Fin 2048) : full 0x3F800000#32 (ix2 r h) = (1 : EReal) := Ideal.ofBits_one_f32
/-- Nothing changes under a division by one. -/
theorem div_one' (x : EReal) : Ideal.div x 1 = x := by simp [Ideal.div]

/-! ## Layers -/

/-- Rows times a transposed matrix, at an index. -/
theorem dot_rows {a b n : ℕ} (x : Mat n b) (w : Mat a b) (h : (⟨2, ![a, b]⟩ : Shape).Transposes [1, 0] ⟨2, ![b, a]⟩) (r : Fin n) (j : Fin a) :
    Host.dotGeneral (F := Ideal) (DotDims.plain n b a) none x (transpose ⟨2, ![b, a]⟩ [1, 0] w h) (ix2 r j) = apply (row x r) w j := by
  rw [StackMember.dotGeneral_plain_apply]
  exact Finset.sum_congr rfl fun k _ => by rw [transpose_ix2_apply]; rfl

theorem widen_apply (x w : Mat 2048 1024) (r h : Fin 2048) : widen x w (ix2 r h) = apply (row x r) w h := dot_rows x w _ r h

/-- A layer without bias. -/
theorem narrow_apply (x : Mat 2048 2048) (w : Mat 1024 2048) (b : Row 1024) (hb : ∀ i, b i = (0 : EReal)) (r : Fin 2048) (j : Fin 1024) :
    narrow x w b (ix2 r j) = apply (row x r) w j :=
  (congrArg₂ (· + ·) (dot_rows x w _ r j) (hb _)).trans (add_zero _)

/-- The two-layer expert is `mlp`. -/
theorem dense_apply (x a : Mat 2048 1024) (ba : Row 2048) (b : Mat 1024 2048) (bb : Row 1024)
    (ha : ∀ i, ba i = (0 : EReal)) (hb : ∀ i, bb i = (0 : EReal)) (r : Fin 2048) (j : Fin 1024) :
    dense x a ba b bb (ix2 r j) = mlp (row x r) a b j := by
  unfold dense
  rw [narrow_apply _ _ _ hb]
  refine congrArg (fun f => apply f b j) (funext fun h => ?_)
  exact congrArg₂ max ((congrArg₂ (· + ·) (widen_apply x a r h) (ha _)).trans (add_zero _)) (full_zero r h)

/-! ## The convolution of a signal of one position -/

theorem at0_apply (v : Taps) (r : Fin 2048) (k : Fin 1024) : at0 v (ix2 r k) = v (ix3 r k 0) := lastAxis_apply 0 v _ _ r k 0 rfl
theorem at1_apply (v : Taps) (r : Fin 2048) (k : Fin 1024) : at1 v (ix2 r k) = v (ix3 r k 1) := lastAxis_apply 1 v _ _ r k 1 rfl
theorem at2_apply (v : Taps) (r : Fin 2048) (k : Fin 1024) : at2 v (ix2 r k) = v (ix3 r k 2) := lastAxis_apply 2 v _ _ r k 2 rfl

/-- The padding is zero, … -/
theorem padded_zero (x : Mat 2048 1024) (r : Fin 2048) (k : Fin 1024) (q : Fin 3) (hq : q ≠ 1) : padded x (ix3 r k q) = (0 : EReal) := by
  unfold padded
  refine (pad_apply_of_not_inside (s := S2048x1024x1) (t := S2048x1024x3) ![0, 0, 1] ![0, 0, 1] ![0, 0, 0] _ _ _ _ (ix3 r k q) 2 (by
    show ¬(1 ≤ q.val ∧ (q.val - 1) % 1 = 0 ∧ (q.val - 1) / 1 < 1)
    have : q.val ≠ 1 := fun h => hq (Fin.ext h)
    omega)).trans ?_
  exact sitofp_zero
/-- … and the middle is the signal. -/
theorem padded_one (x : Mat 2048 1024) (r : Fin 2048) (k : Fin 1024) : padded x (ix3 r k 1) = x (ix2 r k) := by
  unfold padded
  rw [pad_apply_of_inside ![0, 0, 1] ![0, 0, 1] ![0, 0, 0] _ _ _ _ (ix3 r k 1) (ix3 r k 0) (fun a => by
    match a with
    | ⟨0, _⟩ => exact (Nat.zero_add _).symm.trans (congrArg (0 + ·) (Nat.mul_one _).symm)
    | ⟨1, _⟩ => exact (Nat.zero_add _).symm.trans (congrArg (0 + ·) (Nat.mul_one _).symm)
    | ⟨2, _⟩ => rfl)]
  exact broadcastInDim_apply _ _ _ _ _ fun a => by
    match a with
    | ⟨0, _⟩ => rfl
    | ⟨1, _⟩ => rfl

/-- A zero row times anything is zero. -/
theorem apply_zero {a b : ℕ} (x : Fin b → EReal) (hx : ∀ k, x k = 0) (w : Mat a b) (h : Fin a) : apply x w h = 0 :=
  Finset.sum_eq_zero fun k _ => by rw [hx, zero_mul]

/-- Only the filter's middle tap meets the signal. -/
theorem convolved_apply (x : Mat 2048 1024) (w : Taps) (r h : Fin 2048) : convolved x w (ix2 r h) = apply (row x r) (tap w) h := by
  have h0 : widen (at0 (padded x)) (at0 w) (ix2 r h) = (0 : EReal) := by
    rw [widen_apply]
    exact apply_zero _ (fun k => (at0_apply _ r k).trans (padded_zero x r k 0 (by decide))) _ _
  have h2 : widen (at2 (padded x)) (at2 w) (ix2 r h) = (0 : EReal) := by
    rw [widen_apply]
    exact apply_zero _ (fun k => (at2_apply _ r k).trans (padded_zero x r k 2 (by decide))) _ _
  have h1 : widen (at1 (padded x)) (at1 w) (ix2 r h) = apply (row x r) (tap w) h := by
    rw [widen_apply]
    refine Finset.sum_congr rfl fun k _ => congrArg₂ (· * ·) ((at1_apply _ r k).trans (padded_one x r k)) (at1_apply w h k)
  exact (congrArg₂ (· + ·) (congrArg₂ (· + ·) h0 h1) h2).trans (by rw [zero_add, add_zero])

/-- The mean over the one position is the rectified convolution. -/
theorem pooled_apply (x : Mat 2048 1024) (w : Taps) (b : Row 2048) (hb : ∀ i, b i = (0 : EReal)) (r h : Fin 2048) :
    pooled x w b (ix2 r h) = max (apply (row x r) (tap w) h) 0 := by
  have hc (p : Fin 1) : broadcastInDim S2048x2048x1 ![0, 1] bcast_S2048x2048_S2048x2048x1_0_1 (convolved x w) (ix3 r h p)
      = apply (row x r) (tap w) h := by
    rw [← convolved_apply]
    exact broadcastInDim_apply _ _ _ _ _ fun a => by
      match a with
      | ⟨0, _⟩ => rfl
      | ⟨1, _⟩ => rfl
  unfold pooled
  refine (congrArg₂ Ideal.div ?_ (full_one r h)).trans (div_one' _)
  rw [one_sum]
  refine (congrArg₂ (· + ·) Ideal.ofBits_zero_f32 ?_).trans (zero_add _)
  exact congrArg₂ max ((congrArg₂ (· + ·) (hc 0) (hb _)).trans (add_zero _)) Ideal.ofBits_zero_f32

/-- The convolutional expert is `mlp` of the middle tap. -/
theorem conv_apply (x : Mat 2048 1024) (w : Taps) (b : Row 2048) (wf : Mat 1024 2048) (bf : Row 1024)
    (hb : ∀ i, b i = (0 : EReal)) (hf : ∀ i, bf i = (0 : EReal)) (r : Fin 2048) (j : Fin 1024) :
    narrow (pooled x w b) wf bf (ix2 r j) = mlp (row x r) (tap w) wf j := by
  rw [narrow_apply _ _ _ hf]
  exact congrArg (fun f => apply f wf j) (funext fun h => pooled_apply x w b hb r h)

/-! ## The recurrent cell from the zero state -/

theorem gatesIn_apply (x : Mat 2048 1024) (w : Mat 6144 1024) (b : Row 6144) (hb : ∀ i, b i = (0 : EReal)) (r : Fin 2048) (j : Fin 6144) :
    gatesIn x w b (ix2 r j) = apply (row x r) w j :=
  (congrArg₂ (· + ·) (dot_rows x w _ r j) (hb _)).trans (add_zero _)
theorem gatesState_apply (w : Mat 6144 2048) (b : Row 6144) (hb : ∀ i, b i = (0 : EReal)) (r : Fin 2048) (j : Fin 6144) :
    gatesState (full 0x00000000#32) w b (ix2 r j) = (0 : EReal) :=
  (congrArg₂ (· + ·) ((dot_rows (full 0x00000000#32) w _ r j).trans (apply_zero _ (fun k => full_zero r k) w j)) (hb _)).trans (add_zero _)

/-- A band of the gates at an index. -/
theorem cols_apply (o : ℕ) (ho : o + 2048 ≤ 6144) (g : Mat 2048 6144) (hs : S2048x6144.Slices ![0, o] S2048x2048) (r h : Fin 2048) :
    extractStridedSlice S2048x2048 ![0, o] g hs (ix2 r h) = g (ix2 r ⟨o + h.val, by omega⟩) :=
  slice2_axis1_apply o g hs r h _ rfl

/-- The logistic function at an index. -/
theorem logistic_apply (v : Mat 2048 2048) (r h : Fin 2048) :
    logistic v (ix2 r h) = Ideal.div 1 (1 + Ideal.exp (-(v (ix2 r h)))) :=
  congrArg₂ Ideal.div (full_one r h) (congrArg₂ (· + ·) (full_one r h) rfl)

/-- One step of the cell, the state and the state's part of the gates zero. -/
theorem step_apply (gi gh : Mat 2048 6144) (hh : ∀ r j, gh (ix2 r j) = (0 : EReal)) (r h : Fin 2048) :
    step gi gh (full 0x00000000#32) (ix2 r h)
      = Ideal.div (Ideal.tanh (gi (ix2 r ⟨4096 + h.val, by omega⟩))) (1 + Ideal.exp (gi (ix2 r ⟨2048 + h.val, by omega⟩))) := by
  have hz : logistic (addf (F := Ideal) (φ := .f32) (band1 gi) (band1 gh)) (ix2 r h)
      = Ideal.div 1 (1 + Ideal.exp (-(gi (ix2 r ⟨2048 + h.val, by omega⟩)))) := by
    rw [logistic_apply]
    refine congrArg (fun t : EReal => Ideal.div 1 (1 + Ideal.exp (-t))) ?_
    exact (congrArg₂ (· + ·) (cols_apply 2048 (by decide) gi _ r h) ((cols_apply 2048 (by decide) gh _ r h).trans (hh _ _))).trans (add_zero _)
  have hn : addf (F := Ideal) (φ := .f32) (band2 gi) (mulf (F := Ideal) (φ := .f32)
      (logistic (addf (F := Ideal) (φ := .f32) (band0 gi) (band0 gh))) (band2 gh)) (ix2 r h) = gi (ix2 r ⟨4096 + h.val, by omega⟩) := by
    refine (congrArg₂ (· + ·) (cols_apply 4096 (by decide) gi _ r h) ((congrArg₂ (· * ·) rfl
      ((cols_apply 4096 (by decide) gh _ r h).trans (hh _ _))).trans (mul_zero _))).trans (add_zero _)
  exact (congrArg₂ (· + ·) (congrArg₂ (· * ·) (congrArg₂ (· - ·) (full_one r h) hz) (congrArg Ideal.tanh hn))
    (congrArg₂ (· * ·) hz (full_zero r h))).trans (cell_eq _ _ (tanh_real _))

/-- The recurrent expert is `cell`. -/
theorem cell_apply (x : Mat 2048 1024) (wi : Mat 6144 1024) (wh : Mat 6144 2048) (bi bh : Row 6144) (wf : Mat 1024 2048) (bf : Row 1024)
    (hi : ∀ i, bi i = (0 : EReal)) (hh : ∀ i, bh i = (0 : EReal)) (hf : ∀ i, bf i = (0 : EReal)) (r : Fin 2048) (j : Fin 1024) :
    narrow (step (gatesIn x wi bi) (gatesState (full 0x00000000#32) wh bh) (full 0x00000000#32)) wf bf (ix2 r j)
      = cell (row x r) (band 2048 (by decide) wi) (band 4096 (by decide) wi) wf j := by
  rw [narrow_apply _ _ _ hf]
  refine congrArg (fun f => apply f wf j) (funext fun h => ?_)
  refine (step_apply _ _ (gatesState_apply wh bh hh) r h).trans ?_
  rw [gatesIn_apply _ _ _ hi, gatesIn_apply _ _ _ hi]
  rfl

end Cert.ReferenceIdeal.Hand

end
-- ==== Proof.Order.lean ====
/-
  The reference's gate read at an index: its probabilities, and the two largest of each row.
-/
module

public import proofs.«01_k».proof.Proof.Layers

@[expose] public section

noncomputable section

namespace Cert.ReferenceIdeal.Hand

open Cert.ReferenceIdeal Cert.ReferenceIdeal.Gen Cert.Gate
open Idealize.ShloMosaic Idealize.ShloMosaic.ValueIdx
open scoped BigOperators

theorem logits_apply (x : Mat 2048 1024) (w : Mat 4 1024) (b : Row 4) (hb : ∀ i, b i = (0 : EReal)) (r : Fin 2048) (e : Fin 4) :
    logits x w b (ix2 r e) = apply (row x r) w e :=
  (congrArg₂ (· + ·) (dot_rows x w _ r e) (hb _)).trans (add_zero _)

/-- One number per row, read along the row. -/
theorem along_apply (v : Row 2048) (r : Fin 2048) (e : Fin 4) : along v (ix2 r e) = v (ix1 r) := by
  unfold along
  rw [broadcastInDim_apply _ _ _ (ix2 r e) (ix2 r (0 : Fin 1)) fun a => by
    match a with
    | ⟨0, _⟩ => rfl
    | ⟨1, _⟩ => rfl]
  exact broadcastInDim_apply _ _ _ _ _ fun a => by
    match a with
    | ⟨0, _⟩ => rfl

/-- The fold of `max` from the least value over the four experts. -/
theorem fold_four (l : Fin 4 → EReal) : Finset.univ.fold max (⊥ : EReal) l = top1 l := by
  have h : Finset.univ.fold max (⊥ : EReal) l = max (l 0) (max (l 1) (max (l 2) (max (l 3) ⊥))) := by
    rw [show (Finset.univ : Finset (Fin 4)) = {0, 1, 2, 3} from by decide]
    rw [Finset.fold_insert (by decide), Finset.fold_insert (by decide), Finset.fold_insert (by decide), Finset.fold_singleton]
  rw [h]; unfold top1
  simp [max_assoc]

theorem low_word : Ideal.ofBits .f32 0xFF800000#32 = (⊥ : EReal) := by simp [Ideal.ofBits, Ideal.ieee]

theorem exps_apply (l : Mat 2048 4) (r : Fin 2048) (e : Fin 4) : exps l (ix2 r e) = Ideal.exp (l (ix2 r e) - top1 (row l r)) := by
  refine congrArg (fun t : EReal => Ideal.exp (l (ix2 r e) - t)) ?_
  rw [along_apply, ← fold_four]
  refine (congrArg₂ max low_word ?_).trans (max_bot_left _)
  rw [row_max]
  exact congrArg (fun z => Finset.univ.fold max z (row l r)) low_word

/-- The probabilities of a row are the softmax of the gate's values. -/
theorem quotients_apply (l : Mat 2048 4) (r : Fin 2048) (e : Fin 4) : quotients (exps l) (ix2 r e) = weight (row l r) e := by
  refine congrArg₂ Ideal.div (exps_apply l r e) ?_
  rw [along_apply]
  rw [row_sum]
  refine (congrArg₂ (· + ·) Ideal.ofBits_zero_f32 (Fin.sum_univ_four _)).trans ?_
  rw [zero_add]
  unfold total
  exact congrArg₂ (· + ·) (congrArg₂ (· + ·) (congrArg₂ (· + ·) (exps_apply l r 0) (exps_apply l r 1)) (exps_apply l r 2)) (exps_apply l r 3)

/-- A position among the first two, among the four. -/
abbrev among (k : Fin 2) : Fin 4 := ⟨k.val, by omega⟩

/-- A row's index moved along the row. -/
theorem along_row (r : Fin 2048) (k i : Fin 4) : (ix2 r k : S2048x4.Idx).along 1 i = ix2 r i := by
  funext a
  match a with
  | ⟨0, _⟩ => rfl
  | ⟨1, _⟩ => rfl

/-- The sort's comparison along a row is `ahead`. -/
theorem order_row (p : Mat 2048 4) (r : Fin 2048) (k : Fin 4) :
    sortedFrom (fun i i' : Fin 4 => FloatOps.cmpfTotal (F := Ideal) (φ := .f32) .gt (p ((ix2 r k : S2048x4.Idx).along 1 i)) (p ((ix2 r k : S2048x4.Idx).along 1 i')) == 1#1) k
      = place (row p r) k := by
  unfold place
  refine congrFun (sortedFrom_congr _ _ fun i i' _ => ?_) k
  rw [along_row, along_row]
  show (BitVec.ofBool (decide (p (ix2 r i') < p (ix2 r i))) == 1#1) = decide (row p r i' < row p r i)
  by_cases h : p (ix2 r i') < p (ix2 r i)
  · simp [h, row]
  · simp [h, row]

/-- The rows sorted in descending order, with the experts carried along. -/
def sorted (p : Mat 2048 4) : Mat 2048 4 × IVec S2048x4 32 :=
  Host.sort2 S2048x4 1 (fun l r => FloatOps.cmpfTotal (F := Ideal) (φ := .f32) .gt l.1 r.1) p
    (fun i => if hd : 1 < S2048x4.rank then iotaInDim S2048x4 32 ⟨1, hd⟩ i else 0#32)

/-- The first two columns of an array. -/
theorem first_two {α : Type} (v : S2048x4.Idx → α) (r : Fin 2048) (k : Fin 2) :
    extractStridedSlice S2048x2 (fun _ => 0) v sliceFits_S2048x4_S2048x2 (ix2 r k) = v (ix2 r (among k)) :=
  extractStridedSlice_apply _ _ _ _ _ fun a => by
    match a with
    | ⟨0, _⟩ => exact (Nat.zero_add _).symm
    | ⟨1, _⟩ => exact (Nat.zero_add _).symm

/-- The `k`-th largest probability of a row, … -/
theorem largest_apply (p : Mat 2048 4) (r : Fin 2048) (k : Fin 2) : largest p (ix2 r k) = row p r (place (row p r) (among k)) := by
  refine (first_two (sorted p).1 r k).trans ?_
  exact (congrArg p (along_row r (among k) _)).trans (congrArg (row p r) (order_row p r (among k)))
/-- … and its expert. -/
theorem experts_apply (p : Mat 2048 4) (r : Fin 2048) (k : Fin 2) :
    experts p (ix2 r k) = BitVec.ofNat 32 (place (row p r) (among k)).val := by
  refine (first_two (sorted p).2 r k).trans ?_
  exact (congrArg (fun i : S2048x4.Idx => BitVec.ofNat 32 (i 1).val) (along_row r (among k) _)).trans
      (congrArg (fun i : Fin 4 => BitVec.ofNat 32 i.val) (order_row p r (among k)))

end Cert.ReferenceIdeal.Hand

end
-- ==== Proof.Take.lean ====
/-
  The reference's choice of two experts out of the four, and the weighted sum of the two.
-/
module

public import proofs.«01_k».proof.Proof.Order
public import Idealize.ShloMosaic.Lib.ReduceAll

@[expose] public section

noncomputable section

namespace Cert.ReferenceIdeal.Hand

open Cert.ReferenceIdeal Cert.ReferenceIdeal.Gen Cert.Gate
open Idealize.ShloMosaic Idealize.ShloMosaic.ValueIdx
open scoped BigOperators

/-- The first row's experts, as a vector. -/
theorem chosen_apply (e : IVec S2048x2 32) (j : Fin 2) : chosen e (ix1 j) = e (ix2 0 j) := by
  refine (shapeCast_1a_a_apply _ _ j).trans ?_
  exact extractStridedSlice_apply _ _ _ _ _ fun a => by
    match a with
    | ⟨0, _⟩ => rfl
    | ⟨1, _⟩ => exact (Nat.zero_add _).symm

/-! ## Indices in range -/

theorem wrap_word (e : Fin 4) : Scalar.select (IntOp.cmpi .slt (BitVec.ofNat 32 e.val) 0#32) (IntOp.addi (BitVec.ofNat 32 e.val) 4#32) (BitVec.ofNat 32 e.val)
    = BitVec.ofNat 32 e.val := by revert e; decide
theorem range_word (e : Fin 4) : IntOp.andi (IntOp.cmpi .sge (BitVec.ofNat 32 e.val) 0#32) (IntOp.cmpi .sle (BitVec.ofNat 32 e.val) 3#32) = 1#1 := by
  revert e; decide
theorem clamp_word (e : Fin 4) : min (BitVec.ofNat 32 e.val).toInt.toNat (4 - 1) = e.val := by revert e; decide

variable (i : IVec S2 32) (g : Fin 2 → Fin 4) (hi : ∀ j, i (ix1 j) = BitVec.ofNat 32 (g j).val)
include hi

/-- An expert's number is not negative, so it stays. -/
theorem wrapped_apply (j : Fin 2) : wrapped i (ix2 j 0) = BitVec.ofNat 32 (g j).val := by
  refine (broadcastInDim_apply _ _ _ (ix2 j 0) (ix1 j) fun a => by
    match a with
    | ⟨0, _⟩ => rfl).trans ?_
  show Scalar.select (IntOp.cmpi .slt (i (ix1 j)) 0#32) (IntOp.addi (i (ix1 j)) 4#32) (i (ix1 j)) = _
  rw [hi]
  exact wrap_word (g j)

/-- An expert's number is in range. -/
theorem inRange_apply (j : S2.Idx) : inRange (wrapped i) j = 1#1 := by
  refine Host.reduce_andi_one _ _ _ _ _ rfl fun q => ?_
  obtain ⟨a, rfl⟩ : ∃ a : Fin 2, q = ix2 (n0 := 2) (n1 := 1) a 0 :=
    ⟨q 0, (eq_ix2 (n0 := 2) (n1 := 1) q).trans (congrArg (ix2 (n0 := 2) (n1 := 1) (q 0)) (Subsingleton.elim (α := Fin 1) _ _))⟩
  show IntOp.andi (IntOp.cmpi .sge (wrapped i (ix2 a 0)) 0#32) (IntOp.cmpi .sle (wrapped i (ix2 a 0)) 3#32) = 1#1
  rw [wrapped_apply i g hi]
  exact range_word _

/-- The taken outputs are those of the numbered experts. -/
theorem taken_apply (s : FVec Ideal S2048x4x1024 .f32) (r : Fin 2048) (j : Fin 2) (c : Fin 1024) :
    taken s i (ix3 r j c) = s (ix3 r (g j) c) := by
  have hg : Host.gather gather_S2048x4x1024_S2x1_S2048x2x1024_02_1_n_n_1_1_204811024 s (wrapped i) (ix3 r j c) = s (ix3 r (g j) c) := by
    unfold Host.gather
    refine congrArg s (funext fun a => Fin.ext ?_)
    show GatherDims.start _ _ _ a + GatherDims.batchCoord _ _ a + GatherDims.offCoord _ _ a = _
    rw [GatherDims.batchCoord_eq_zero _ _ _ List.not_mem_nil, Nat.add_zero]
    have hs : GatherDims.siIdx gather_S2048x4x1024_S2x1_S2048x2x1024_02_1_n_n_1_1_204811024 (ix3 r j c) ⟨0, by decide⟩ = (ix2 j 0 : S2x1.Idx) := by
      funext b
      match b with
      | ⟨0, _⟩ => rfl
      | ⟨1, _⟩ => rfl
    match a with
    | ⟨0, _⟩ =>
      exact (congrArg₂ (· + ·) (dif_neg (show (0 : Fin 3) ∉ gather_S2048x4x1024_S2x1_S2048x2x1024_02_1_n_n_1_1_204811024.startIndexMap by decide))
        (dif_pos (show (0 : Fin 3) ∈ gather_S2048x4x1024_S2x1_S2048x2x1024_02_1_n_n_1_1_204811024.sKept by decide))).trans (Nat.zero_add _)
    | ⟨1, _⟩ =>
      refine (congrArg₂ (· + ·) (dif_pos (show (1 : Fin 3) ∈ gather_S2048x4x1024_S2x1_S2048x2x1024_02_1_n_n_1_1_204811024.startIndexMap by decide))
        (dif_neg (show (1 : Fin 3) ∉ gather_S2048x4x1024_S2x1_S2048x2x1024_02_1_n_n_1_1_204811024.sKept by decide))).trans ((Nat.add_zero _).trans ?_)
      refine (congrArg (fun q => min (wrapped i q).toInt.toNat (4 - 1)) hs).trans ?_
      rw [wrapped_apply i g hi]
      exact clamp_word (g j)
    | ⟨2, _⟩ =>
      exact (congrArg₂ (· + ·) (dif_neg (show (2 : Fin 3) ∉ gather_S2048x4x1024_S2x1_S2048x2x1024_02_1_n_n_1_1_204811024.startIndexMap by decide))
        (dif_pos (show (2 : Fin 3) ∈ gather_S2048x4x1024_S2x1_S2048x2x1024_02_1_n_n_1_1_204811024.sKept by decide))).trans (Nat.zero_add _)
  show Scalar.select (inRange (wrapped i) _) _ _ = _
  rw [inRange_apply i g hi, hg]
  rfl

omit hi
/-! ## The experts side by side -/

/-- An output among the stacked ones. -/
theorem member_apply (e : Mat 2048 1024) (r : Fin 2048) (q : Fin 1) (c : Fin 1024) :
    broadcastInDim S2048x1x1024 ![0, 2] bcast_S2048x1024_S2048x1x1024_0_2 e (ix3 r q c) = e (ix2 r c) :=
  broadcastInDim_apply _ _ _ _ _ fun a => by
    match a with
    | ⟨0, _⟩ => rfl
    | ⟨1, _⟩ => rfl

/-- The stacked outputs at an expert. -/
theorem stacked_apply (e : Fin 4 → Mat 2048 1024) (r : Fin 2048) (n : Fin 4) (c : Fin 1024) :
    stacked (e 0) (e 1) (e 2) (e 3) (ix3 r n c) = e n (ix2 r c) := by
  have h (xs : List ((s : Shape) × (s.Idx → Ideal .f32))) (hx : Shape.Concatenates (xs.map (·.1)) S2048x4x1024 1) (hk : n.val < xs.length)
      (hxk : xs[n.val] = ⟨S2048x1x1024, broadcastInDim S2048x1x1024 ![0, 2] bcast_S2048x1024_S2048x1x1024_0_2 (e n)⟩)
      (hpre : (((xs.take n.val).map (·.1)).map fun s => if h : s.rank = S2048x4x1024.rank then s.size ((1 : Fin S2048x4x1024.rank).cast h.symm) else 0).sum = n.val) :
      concatenate S2048x4x1024 1 xs hx (ix3 r n c) = e n (ix2 r c) := by
    refine (concatenate_apply_piece 1 xs hx (ix3 r n c) n.val hk S2048x1x1024 _ hxk rfl n.val hpre (ix3 r 0 c) (fun b hb => ?_) (Nat.add_zero _)).trans
      (member_apply (e n) r 0 c)
    match b, hb with
    | ⟨0, _⟩, _ => rfl
    | ⟨1, _⟩, hb => exact absurd rfl hb
    | ⟨2, _⟩, _ => rfl
  unfold stacked Value.fn_main_v123
  match n, h with
  | 0, h => exact h _ _ (by show (0 : ℕ) < 4; decide) rfl rfl
  | 1, h => exact h _ _ (by show (1 : ℕ) < 4; decide) rfl rfl
  | 2, h => exact h _ _ (by show (2 : ℕ) < 4; decide) rfl rfl
  | 3, h => exact h _ _ (by show (3 : ℕ) < 4; decide) rfl rfl

/-- The two weighted outputs added. -/
theorem mixed_apply (w : Mat 2048 2) (s : FVec Ideal S2048x2x1024 .f32) (r : Fin 2048) (c : Fin 1024) :
    mixed w s (ix2 r c) = w (ix2 r 0) * s (ix3 r 0 c) + w (ix2 r 1) * s (ix3 r 1 c) := by
  have hw (k : Fin 2) : broadcastInDim S2048x2x1024 ![0, 1, 2] bcast_S2048x2x1_S2048x2x1024_0_1_2
      (broadcastInDim S2048x2x1 ![0, 1] bcast_S2048x2_S2048x2x1_0_1 w) (ix3 r k c) = w (ix2 r k) := by
    refine (broadcastInDim_apply _ _ _ _ (ix3 r k (0 : Fin 1)) fun a => by
      match a with
      | ⟨0, _⟩ => rfl
      | ⟨1, _⟩ => rfl
      | ⟨2, _⟩ => rfl).trans ?_
    exact broadcastInDim_apply _ _ _ _ _ fun a => by
      match a with
      | ⟨0, _⟩ => rfl
      | ⟨1, _⟩ => rfl
  unfold mixed
  rw [two_sum]
  refine (congrArg₂ (· + ·) Ideal.ofBits_zero_f32 rfl).trans ((zero_add _).trans ?_)
  exact congrArg₂ (· + ·) (congrArg (· * s (ix3 r 0 c)) (hw 0)) (congrArg (· * s (ix3 r 1 c)) (hw 1))

end Cert.ReferenceIdeal.Hand

end
-- ==== Proof.Settled.lean ====
/-
  The reference's result is the mixture, the biases zero and the gate's values real.
-/
module

public import proofs.«01_k».proof.Proof.Take

@[expose] public section

noncomputable section

namespace Cert.ReferenceIdeal.Hand

open Cert.ReferenceIdeal Cert.ReferenceIdeal.Gen Cert.Gate
open Idealize.ShloMosaic Idealize.ShloMosaic.TcCoe Idealize.ShloMosaic.ValueIdx

/-- A bias that is zero everywhere. -/
abbrev Zero {a : ℕ} (b : Row a) : Prop := ∀ i, b i = (0 : EReal)

/-- A row of the probabilities is the softmax of the row's gate values. -/
theorem probs_row (x : Mat 2048 1024) (wg : Mat 4 1024) (bg : Row 4) (hb : Zero bg) (r : Fin 2048) :
    row (quotients (exps (logits x wg bg))) r = weight (apply (row x r) wg) := by
  have hl : row (logits x wg bg) r = apply (row x r) wg := funext fun e => logits_apply x wg bg hb r e
  rw [← hl]
  exact funext fun e => quotients_apply _ r e

/-- The steps after the experts, for any four outputs that are the experts' on every row. -/
theorem steps_eq (x : Mat 2048 1024) (wg : Mat 4 1024) (bg : Row 4) (hb : Zero bg) (h : ∀ r, Real4 (apply (row x r) wg))
    (p : Params) (e : Fin 4 → Mat 2048 1024) (he : ∀ n r j, e n (ix2 r j) = expert p n (row x r) j) :
    mixed (largest (quotients (exps (logits x wg bg)))) (taken (stacked (e 0) (e 1) (e 2) (e 3))
      (chosen (experts (quotients (exps (logits x wg bg)))))) = mixture x wg p := by
  have hw (r : Fin 2048) (k : Fin 2) : largest (quotients (exps (logits x wg bg))) (ix2 r k)
      = weight (apply (row x r) wg) (place (apply (row x r) wg) (among k)) := by
    rw [largest_apply, probs_row x wg bg hb, place_weight (h r)]
  have hs (r : Fin 2048) (k : Fin 2) (j : Fin 1024) : taken (stacked (e 0) (e 1) (e 2) (e 3))
      (chosen (experts (quotients (exps (logits x wg bg))))) (ix3 r k j) = expert p (place (apply (row x 0) wg) (among k)) (row x r) j := by
    rw [taken_apply _ (fun k => place (apply (row x 0) wg) (among k)) fun k => by
      rw [chosen_apply, experts_apply, probs_row x wg bg hb, place_weight (h 0)]]
    exact (stacked_apply e r _ j).trans (he _ r j)
  refine funext fun i => ?_
  obtain ⟨r, j, rfl⟩ : ∃ (r : Fin 2048) (j : Fin 1024), i = ix2 r j := ⟨i 0, i 1, eq_ix2 (n0 := 2048) (n1 := 1024) i⟩
  rw [mixed_apply, hw, hw, hs, hs]
  rfl

variable (m : (ℓ : Loc nD τ sig) → Buf (Elt Ideal) ℓ) (c : Dev nD)

/-- Every bias the reference adds is zero. -/
structure Unbiased : Prop where
  bg : Zero (a := 4) (m ((c.tc : Thread nD τ).loc main_arg2))
  b1a : Zero (a := 2048) (m ((c.tc : Thread nD τ).loc main_arg4))
  b1b : Zero (a := 1024) (m ((c.tc : Thread nD τ).loc main_arg6))
  bc : Zero (a := 2048) (m ((c.tc : Thread nD τ).loc main_arg8))
  bcf : Zero (a := 1024) (m ((c.tc : Thread nD τ).loc main_arg10))
  bih : Zero (a := 6144) (m ((c.tc : Thread nD τ).loc main_arg13))
  bhh : Zero (a := 6144) (m ((c.tc : Thread nD τ).loc main_arg14))
  brf : Zero (a := 1024) (m ((c.tc : Thread nD τ).loc main_arg16))
  b4a : Zero (a := 2048) (m ((c.tc : Thread nD τ).loc main_arg18))
  b4b : Zero (a := 1024) (m ((c.tc : Thread nD τ).loc main_arg20))

/-- The reference's result. -/
theorem reference_eq (hb : Unbiased m c)
    (h : ∀ r, Real4 (apply (row (m ((c.tc : Thread nD τ).loc main_arg0) : Mat 2048 1024) r) (m ((c.tc : Thread nD τ).loc main_arg1) : Mat 4 1024))) :
    Value.res_main_v128 m c = mixture (m ((c.tc : Thread nD τ).loc main_arg0)) (m ((c.tc : Thread nD τ).loc main_arg1))
      (weightsOf (m ((c.tc : Thread nD τ).loc main_arg3)) (m ((c.tc : Thread nD τ).loc main_arg5)) (m ((c.tc : Thread nD τ).loc main_arg7))
        (m ((c.tc : Thread nD τ).loc main_arg9)) (m ((c.tc : Thread nD τ).loc main_arg11)) (m ((c.tc : Thread nD τ).loc main_arg15))
        (m ((c.tc : Thread nD τ).loc main_arg17)) (m ((c.tc : Thread nD τ).loc main_arg19))) := by
  rw [result_steps]
  unfold outputs probs
  refine steps_eq _ _ _ hb.bg h _ (fun n => match n with | 0 => _ | 1 => _ | 2 => _ | 3 => _) fun n r j => ?_
  match n with
  | 0 => exact dense_apply _ _ _ _ _ hb.b1a hb.b1b r j
  | 1 => exact conv_apply _ _ _ _ _ hb.bc hb.bcf r j
  | 2 => exact cell_apply _ _ _ _ _ _ _ hb.bih hb.bhh hb.brf r j
  | 3 => exact dense_apply _ _ _ _ _ hb.b4a hb.b4b r j

end Cert.ReferenceIdeal.Hand

end
-- ==== Proof.Pre.lean ====
/-
  What the precondition says: the rows and the gate's weights are real numbers, and every bias is zero.
-/
module

public import proofs.«01_k».proof.Defs
public import proofs.«01_k».proof.Proof.Array
public import proofs.«01_k».proof.Proof.Settled

@[expose] public section

noncomputable section

namespace Cert.Pre_finite_gate_no_bias.Hand

open Cert.Pre_finite_gate_no_bias

theorem facts : Facts where
  bcast_S_S2048x1024 := by decide
  bcast_S_S4x1024 := by decide
  bcast_S_S4 := by decide
  bcast_S_S2048 := by decide
  bcast_S_S1024 := by decide
  bcast_S_S6144 := by decide

end Cert.Pre_finite_gate_no_bias.Hand

namespace Cert.KernelIdeal.Hand

open Cert.KernelIdeal Cert.Gate
open Idealize.ShloMosaic Idealize.ShloMosaic.TcCoe Idealize.ShloMosaic.ValueIdx

attribute [local instance] Cert.KernelIdeal.Gen.facts Cert.Pre_finite_gate_no_bias.Hand.facts

/-- An extended real whose absolute value is below infinity is real. -/
theorem real_of_word (x : EReal)
    (h : FloatOps.cmpf .olt (FloatOps.hostAbsf (F := Ideal) (φ := .f32) x) (FloatOps.ofBits (F := Ideal) .f32 0x7F800000#32) = 1#1) :
    ∃ r : ℝ, x = (r : EReal) := by
  rw [← Ideal.xori_weird_eq_hostAbsf_olt_inf] at h
  have hx : ¬(x = ⊤ ∨ x = ⊥) := fun hb => by
    have hw : FloatOps.weird (F := Ideal) x = 1#1 := by
      show BitVec.ofBool (decide (x = ⊤ ∨ x = ⊥)) = 1#1
      rw [decide_eq_true hb]; rfl
    rw [hw] at h
    exact absurd h (by decide)
  push Not at hx
  exact ⟨x.toReal, (EReal.coe_toReal hx.1 hx.2).symm⟩
/-- An extended real that compares equal to zero is zero. -/
theorem zero_of_word (x : EReal)
    (h : FloatOps.cmpf (F := Ideal) (φ := .f32) .oeq x (FloatOps.ofBits (F := Ideal) .f32 0x00000000#32) = 1#1) : x = 0 := by
  have hz : FloatOps.ofBits (F := Ideal) .f32 0x00000000#32 = (0 : EReal) := Ideal.ofBits_zero_f32
  rw [hz] at h
  by_contra hx
  have hw : FloatOps.cmpf (F := Ideal) (φ := .f32) .oeq x (0 : EReal) = 0#1 := by
    show BitVec.ofBool (decide (x = 0)) = 0#1
    rw [decide_eq_false hx]; rfl
  rw [hw] at h
  exact absurd h (by decide)

/-- The same at every index of a mask that is all ones: real numbers, … -/
theorem real_of_mask {s : Shape} (x : FVec Ideal s .f32) (f : s.Idx → BitVec 1)
    (hf : ∀ i, f i = FloatOps.cmpf .olt (FloatOps.hostAbsf (F := Ideal) (φ := .f32) (x i)) (FloatOps.ofBits (F := Ideal) .f32 0x7F800000#32))
    (h : f = fun _ => 1#1) (i : s.Idx) : ∃ r : ℝ, x i = (r : EReal) := real_of_word _ ((hf i).symm.trans (congrFun h i))
/-- … or zeros. -/
theorem zero_of_mask {s : Shape} (x : FVec Ideal s .f32) (f : s.Idx → BitVec 1)
    (hf : ∀ i, f i = FloatOps.cmpf (F := Ideal) (φ := .f32) .oeq (x i) (FloatOps.ofBits (F := Ideal) .f32 0x00000000#32))
    (h : f = fun _ => 1#1) (i : s.Idx) : x i = (0 : EReal) := zero_of_word _ ((hf i).symm.trans (congrFun h i))

variable (m : (ℓ : Loc nD τ sig) → Buf (Elt Ideal) ℓ) (c : Dev nD)

/-- The precondition on one device, read as extended reals. -/
structure Assumed : Prop where
  gate : RealGate (m ((c.tc : Thread nD τ).loc main_arg0)) (m ((c.tc : Thread nD τ).loc main_arg1))
  bg : ReferenceIdeal.Hand.Zero (a := 4) (m ((c.tc : Thread nD τ).loc main_arg2))
  b1a : ReferenceIdeal.Hand.Zero (a := 2048) (m ((c.tc : Thread nD τ).loc main_arg4))
  b1b : ReferenceIdeal.Hand.Zero (a := 1024) (m ((c.tc : Thread nD τ).loc main_arg6))
  bc : ReferenceIdeal.Hand.Zero (a := 2048) (m ((c.tc : Thread nD τ).loc main_arg8))
  bcf : ReferenceIdeal.Hand.Zero (a := 1024) (m ((c.tc : Thread nD τ).loc main_arg10))
  bih : ReferenceIdeal.Hand.Zero (a := 6144) (m ((c.tc : Thread nD τ).loc main_arg13))
  bhh : ReferenceIdeal.Hand.Zero (a := 6144) (m ((c.tc : Thread nD τ).loc main_arg14))
  brf : ReferenceIdeal.Hand.Zero (a := 1024) (m ((c.tc : Thread nD τ).loc main_arg16))
  b4a : ReferenceIdeal.Hand.Zero (a := 2048) (m ((c.tc : Thread nD τ).loc main_arg18))
  b4b : ReferenceIdeal.Hand.Zero (a := 1024) (m ((c.tc : Thread nD τ).loc main_arg20))

/-- What the precondition gives. -/
theorem assumed (h : Pre_KernelIdeal_finite_gate_no_bias m) : Assumed m c := by
  obtain ⟨h0, h1, h2, h3, h4, h5, h6, h7, h8, h9, h10, h11⟩ := h c
  exact {
    gate := fun r e => dot_real _ _ (fun k => real_of_mask _ _ (fun _ => rfl) h0 _) (fun k => real_of_mask _ _ (fun _ => rfl) h1 _)
    bg := zero_of_mask _ _ (fun _ => rfl) h2
    b1a := zero_of_mask _ _ (fun _ => rfl) h3
    b1b := zero_of_mask _ _ (fun _ => rfl) h4
    bc := zero_of_mask _ _ (fun _ => rfl) h5
    bcf := zero_of_mask _ _ (fun _ => rfl) h6
    bih := zero_of_mask _ _ (fun _ => rfl) h7
    bhh := zero_of_mask _ _ (fun _ => rfl) h8
    brf := zero_of_mask _ _ (fun _ => rfl) h9
    b4a := zero_of_mask _ _ (fun _ => rfl) h10
    b4b := zero_of_mask _ _ (fun _ => rfl) h11 }

end Cert.KernelIdeal.Hand

end
-- ==== Proof.Value.lean ====
/-
  The values' agreement: the kernel's result and the reference's are one mixture of the same arguments.
-/
module

public import proofs.«01_k».proof.Proof.Pre

@[expose] public section

noncomputable section

namespace Cert.KernelIdeal.Hand

open Cert.KernelIdeal Cert.Gate
open Idealize.ShloMosaic Idealize.ShloMosaic.TcCoe Idealize.SL.Sem

attribute [local instance] Cert.KernelIdeal.Gen.facts Cert.ReferenceIdeal.Gen.facts Cert.Pre_finite_gate_no_bias.Hand.facts

/-- Of equal arguments that satisfy the precondition, the reference's result is the kernel's mixture. -/
theorem reference_mixed (m : (ℓ : Loc nD τ sig) → Buf (Elt Ideal) ℓ) (c : Dev nD) (h : Assumed m c)
    (m' : (ℓ : Loc ReferenceIdeal.nD ReferenceIdeal.τ ReferenceIdeal.sig) → Buf (Elt Ideal) ℓ)
    (e0 : m' ((c.tc : Thread ReferenceIdeal.nD ReferenceIdeal.τ).loc ReferenceIdeal.main_arg0) = m ((c.tc : Thread nD τ).loc main_arg0))
    (e1 : m' ((c.tc : Thread ReferenceIdeal.nD ReferenceIdeal.τ).loc ReferenceIdeal.main_arg1) = m ((c.tc : Thread nD τ).loc main_arg1))
    (e3 : m' ((c.tc : Thread ReferenceIdeal.nD ReferenceIdeal.τ).loc ReferenceIdeal.main_arg3) = m ((c.tc : Thread nD τ).loc main_arg3))
    (e5 : m' ((c.tc : Thread ReferenceIdeal.nD ReferenceIdeal.τ).loc ReferenceIdeal.main_arg5) = m ((c.tc : Thread nD τ).loc main_arg5))
    (e7 : m' ((c.tc : Thread ReferenceIdeal.nD ReferenceIdeal.τ).loc ReferenceIdeal.main_arg7) = m ((c.tc : Thread nD τ).loc main_arg7))
    (e9 : m' ((c.tc : Thread ReferenceIdeal.nD ReferenceIdeal.τ).loc ReferenceIdeal.main_arg9) = m ((c.tc : Thread nD τ).loc main_arg9))
    (e11 : m' ((c.tc : Thread ReferenceIdeal.nD ReferenceIdeal.τ).loc ReferenceIdeal.main_arg11) = m ((c.tc : Thread nD τ).loc main_arg11))
    (e15 : m' ((c.tc : Thread ReferenceIdeal.nD ReferenceIdeal.τ).loc ReferenceIdeal.main_arg15) = m ((c.tc : Thread nD τ).loc main_arg15))
    (e17 : m' ((c.tc : Thread ReferenceIdeal.nD ReferenceIdeal.τ).loc ReferenceIdeal.main_arg17) = m ((c.tc : Thread nD τ).loc main_arg17))
    (e19 : m' ((c.tc : Thread ReferenceIdeal.nD ReferenceIdeal.τ).loc ReferenceIdeal.main_arg19) = m ((c.tc : Thread nD τ).loc main_arg19))
    (hb : ReferenceIdeal.Hand.Unbiased m' c) :
    ReferenceIdeal.Value.res_main_v128 m' c = mixed m c := by
  refine (ReferenceIdeal.Hand.reference_eq m' c hb ?_).trans ?_
  · rw [e0, e1]; exact h.gate
  · rw [e0, e1, e3, e5, e7, e9, e11, e15, e17, e19]

/-- The kernel and the reference end with the same result, their arguments unchanged. -/
theorem values_agree : algebraic_KernelIdeal_ReferenceIdeal_pre_finite_gate_no_bias := fun m g m' g' hp ha => by
  refine ⟨fun c => mixed m c, ?_, ?_⟩
  · refine (θ_run (KernelIdeal.defs (F := Ideal)) _ _).mono (fun r h c => ?_) (run (F := Ideal) m g)
    exact ⟨((h.1 c).2).trans (result_eq m c (assumed m c hp).gate), (h.1 c).1⟩
  · refine (θ_run (ReferenceIdeal.defs (F := Ideal)) _ _).mono (fun r h c => ?_) (ReferenceIdeal.Value.run (F := Ideal) m' g')
    refine ⟨((h c).1).trans ?_, (h c).2⟩
    obtain ⟨e0, e1, e2, e3, e4, e5, e6, e7, e8, e9, e10, e11, e12, e13, e14, e15, e16, e17, e18, e19, e20⟩ := ha c
    have hs := assumed m c hp
    exact reference_mixed m c hs m' e0 e1 e3 e5 e7 e9 e11 e15 e17 e19
      { bg := fun i => (congrFun e2 i).trans (hs.bg i), b1a := fun i => (congrFun e4 i).trans (hs.b1a i)
        b1b := fun i => (congrFun e6 i).trans (hs.b1b i), bc := fun i => (congrFun e8 i).trans (hs.bc i)
        bcf := fun i => (congrFun e10 i).trans (hs.bcf i), bih := fun i => (congrFun e13 i).trans (hs.bih i)
        bhh := fun i => (congrFun e14 i).trans (hs.bhh i), brf := fun i => (congrFun e16 i).trans (hs.brf i)
        b4a := fun i => (congrFun e18 i).trans (hs.b4a i), b4b := fun i => (congrFun e20 i).trans (hs.b4b i) }

end Cert.KernelIdeal.Hand

end
-- ==== Proof.lean ====
/-
  The claims, assembled: the kernel's frame as printed and idealized (Same.lean, from the run of Run.lean), the
  reference's frame, and the values' agreement (Value.lean).
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Same
public import proofs.«01_k».proof.Proof.Value

@[expose] public section

noncomputable section

namespace Cert.Proof

open Idealize.ShloMosaic Idealize.SL.Sem

attribute [local instance] Cert.Kernel.Gen.facts Cert.KernelIdeal.Gen.facts Cert.ReferenceIdeal.Gen.facts

/-- The reference's frame: host operations only, none writes an argument; it declares no semaphore. -/
theorem reference_frame : quiescent_ReferenceIdeal := fun m g _ =>
  (θ_run Cert.ReferenceIdeal.defs _ _).mono
    (fun r h => ⟨fun c => (h c).2, sem_eq_zero_of_no_sems (by decide) r.2⟩)
    (Cert.ReferenceIdeal.Value.run (F := Ideal) m g)

/-- Every claim of the certificate. -/
theorem claim : Cert.Claim := ⟨Cert.Kernel.Gen.facts, Cert.KernelIdeal.Gen.facts, Cert.ReferenceIdeal.Gen.facts,
  Cert.Pre_finite_gate_no_bias.Hand.facts,
  KernelIdeal.Hand.kernel_frame, KernelIdeal.Hand.ideal_frame, fun m g _ => KernelIdeal.Hand.ideal_frame m g trivial,
  reference_frame, fun m g _ => reference_frame m g trivial, trivial, KernelIdeal.Hand.values_agree⟩

end Cert.Proof

end
